-- ==== Defs.lean ====
def Pre_Kernel [hPre_pi_is_3012_Kernel : Cert.Pre_pi_is_3012_Kernel.Facts] (m : (ℓ : Loc Cert.Kernel.nD Cert.Kernel.τ Cert.Kernel.sig) → Buf (Elt Bits) ℓ) : Prop :=
  ∀ c : Dev Cert.Kernel.nD,
    (Cert.Pre_pi_is_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2301_Kernel [hPre_pi_is_2301_Kernel : Cert.Pre_pi_is_2301_Kernel.Facts] (m : (ℓ : Loc Cert.Kernel.nD Cert.Kernel.τ Cert.Kernel.sig) → Buf (Elt Bits) ℓ) : Prop :=
  ∀ c : Dev Cert.Kernel.nD,
    (Cert.Pre_pi_is_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1230_Kernel [hPre_pi_is_1230_Kernel : Cert.Pre_pi_is_1230_Kernel.Facts] (m : (ℓ : Loc Cert.Kernel.nD Cert.Kernel.τ Cert.Kernel.sig) → Buf (Elt Bits) ℓ) : Prop :=
  ∀ c : Dev Cert.Kernel.nD,
    (Cert.Pre_pi_is_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_is_3012_Kernel : Cert.Pre_pi_is_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2301_Kernel [hPre_pi_is_2301_Kernel : Cert.Pre_pi_is_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1230_Kernel [hPre_pi_is_1230_Kernel : Cert.Pre_pi_is_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_is_3012_ReferenceIdeal [hPre_pi_is_3012_ReferenceIdeal : Cert.Pre_pi_is_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2301_ReferenceIdeal [hPre_pi_is_2301_ReferenceIdeal : Cert.Pre_pi_is_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1230_ReferenceIdeal [hPre_pi_is_1230_ReferenceIdeal : Cert.Pre_pi_is_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_is_3012_Kernel : Cert.Pre_pi_is_3012_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2301_Kernel [hKernel : Cert.Kernel.Facts] [hPre_pi_is_2301_Kernel : Cert.Pre_pi_is_2301_Kernel.Facts] : Prop :=
  ∀ (m : (ℓ : Loc Cert.Kernel.nD Cert.Kernel.τ Cert.Kernel.sig) → Buf (Elt Bits) ℓ) (g : Dev Cert.Kernel.nD → PrngReg), Pre_Kernel_pi_is_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1230_Kernel [hKernel : Cert.Kernel.Facts] [hPre_pi_is_1230_Kernel : Cert.Pre_pi_is_1230_Kernel.Facts] : Prop :=
  ∀ (m : (ℓ : Loc Cert.Kernel.nD Cert.Kernel.τ Cert.Kernel.sig) → Buf (Elt Bits) ℓ) (g : Dev Cert.Kernel.nD → PrngReg), Pre_Kernel_pi_is_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2301_Kernel [hKernelIdeal : Cert.KernelIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1230_Kernel [hKernelIdeal : Cert.KernelIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3012_ReferenceIdeal [hReferenceIdeal : Cert.ReferenceIdeal.Facts] [hPre_pi_is_3012_ReferenceIdeal : Cert.Pre_pi_is_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2301_ReferenceIdeal [hReferenceIdeal : Cert.ReferenceIdeal.Facts] [hPre_pi_is_2301_ReferenceIdeal : Cert.Pre_pi_is_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1230_ReferenceIdeal [hReferenceIdeal : Cert.ReferenceIdeal.Facts] [hPre_pi_is_1230_ReferenceIdeal : Cert.Pre_pi_is_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2301_Kernel [hKernelIdeal : Cert.KernelIdeal.Facts] [hReferenceIdeal : Cert.ReferenceIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2301_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1230_Kernel [hKernelIdeal : Cert.KernelIdeal.Facts] [hReferenceIdeal : Cert.ReferenceIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1230_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_is_3012_Kernel : Cert.Pre_pi_is_3012_Kernel.Facts) (hPre_pi_is_2301_Kernel : Cert.Pre_pi_is_2301_Kernel.Facts) (hPre_pi_is_1230_Kernel : Cert.Pre_pi_is_1230_Kernel.Facts) (hPre_pi_is_3012_ReferenceIdeal : Cert.Pre_pi_is_3012_ReferenceIdeal.Facts) (hPre_pi_is_2301_ReferenceIdeal : Cert.Pre_pi_is_2301_ReferenceIdeal.Facts) (hPre_pi_is_1230_ReferenceIdeal : Cert.Pre_pi_is_1230_ReferenceIdeal.Facts),
    quiescent_Kernel (hKernel := hKernel) (hPre_pi_is_3012_Kernel := hPre_pi_is_3012_Kernel)
    ∧ quiescent_Kernel_pre_pi_is_2301_Kernel (hKernel := hKernel) (hPre_pi_is_2301_Kernel := hPre_pi_is_2301_Kernel)
    ∧ quiescent_Kernel_pre_pi_is_1230_Kernel (hKernel := hKernel) (hPre_pi_is_1230_Kernel := hPre_pi_is_1230_Kernel)
    ∧ quiescent_KernelIdeal (hKernelIdeal := hKernelIdeal) (hPre_pi_is_3012_Kernel := hPre_pi_is_3012_Kernel)
    ∧ quiescent_KernelIdeal_pre_pi_is_2301_Kernel (hKernelIdeal := hKernelIdeal) (hPre_pi_is_2301_Kernel := hPre_pi_is_2301_Kernel)
    ∧ quiescent_KernelIdeal_pre_pi_is_1230_Kernel (hKernelIdeal := hKernelIdeal) (hPre_pi_is_1230_Kernel := hPre_pi_is_1230_Kernel)
    ∧ quiescent_ReferenceIdeal (hReferenceIdeal := hReferenceIdeal)
    ∧ quiescent_ReferenceIdeal_pre_pi_is_3012_ReferenceIdeal (hReferenceIdeal := hReferenceIdeal) (hPre_pi_is_3012_ReferenceIdeal := hPre_pi_is_3012_ReferenceIdeal)
    ∧ quiescent_ReferenceIdeal_pre_pi_is_2301_ReferenceIdeal (hReferenceIdeal := hReferenceIdeal) (hPre_pi_is_2301_ReferenceIdeal := hPre_pi_is_2301_ReferenceIdeal)
    ∧ quiescent_ReferenceIdeal_pre_pi_is_1230_ReferenceIdeal (hReferenceIdeal := hReferenceIdeal) (hPre_pi_is_1230_ReferenceIdeal := hPre_pi_is_1230_ReferenceIdeal)
    ∧ preserves_Kernel_KernelIdeal
    ∧ algebraic_KernelIdeal_ReferenceIdeal (hKernelIdeal := hKernelIdeal) (hReferenceIdeal := hReferenceIdeal) (hPre_pi_is_3012_Kernel := hPre_pi_is_3012_Kernel)
    ∧ algebraic_KernelIdeal_ReferenceIdeal_pre_pi_is_2301_Kernel (hKernelIdeal := hKernelIdeal) (hReferenceIdeal := hReferenceIdeal) (hPre_pi_is_2301_Kernel := hPre_pi_is_2301_Kernel)
    ∧ algebraic_KernelIdeal_ReferenceIdeal_pre_pi_is_1230_Kernel (hKernelIdeal := hKernelIdeal) (hReferenceIdeal := hReferenceIdeal) (hPre_pi_is_1230_Kernel := hPre_pi_is_1230_Kernel)
-- ==== Pre_pi_is_1230_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1230_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2301_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2301_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3012_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3012_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x2048x1024 : Shape := ⟨3, ![1, 2048, 1024]⟩
abbrev S4 : Shape := ⟨1, ![4]⟩
abbrev S16 : Shape := ⟨1, ![16]⟩
abbrev S_ : Shape := ⟨0, ![]⟩
abbrev S1 : Shape := ⟨1, ![1]⟩
abbrev S1x32x1024 : Shape := ⟨3, ![1, 32, 1024]⟩

abbrev nBuf : Space → Nat
  | .hbm => 3
  | .vmem => 2
  | .smem => 1
  | _ => 0

abbrev bufTy : (tb : Table) → Fin (tcTables nBuf tb) → BufTy
  | .hbm, ⟨0, _⟩ => ⟨S1x2048x1024, .f32⟩
  | .hbm, ⟨1, _⟩ => ⟨S4, .i32⟩
  | .hbm, ⟨2, _⟩ => ⟨S1x2048x1024, .f32⟩
  | .local _ .vmem, ⟨0, _⟩ => ⟨S1x2048x1024, .f32⟩
  | .local _ .vmem, ⟨1, _⟩ => ⟨S1x2048x1024, .f32⟩
  | .local _ .smem, ⟨0, _⟩ => ⟨S4, .i32⟩
  | _, _ => ⟨S1x2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 2 → Bool
  | ⟨0, _⟩ => true
  | ⟨1, _⟩ => false
  | _ => false

abbrev dmaSemScoped : Fin 131 → Bool
  | ⟨i, _⟩ => dmaSemScopedAt i

abbrev sig : RefSig :=
  (ofTc nBuf bufTy 2 131 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 1

abbrev nD : Nat := 16
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : Index := Scalar.indexCast v8
  ![v9.toNat]
def k0_dev1 (d0 : Dev nD) (v21 : BitVec 32) (v24 : BitVec 32) (v27 : BitVec 32) (v30 : BitVec 32) : Nat :=
  let c0_i32_14 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_13 : BitVec 32 := 8#32
  let v34 : BitVec 32 := Scalar.muli v2 c8_i32_13
  let v35 : BitVec 32 := Scalar.addi c0_i32_14 v34
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_15 : BitVec 32 := 4#32
  let v36 : BitVec 32 := Scalar.muli v5 c4_i32_15
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 1 := Scalar.cmpi .eq v30 v8
  let c3_i32 : BitVec 32 := 3#32
  let v28 : BitVec 1 := Scalar.cmpi .eq v27 v8
  let c2_i32_11 : BitVec 32 := 2#32
  let v25 : BitVec 1 := Scalar.cmpi .eq v24 v8
  let c1_i32_10 : BitVec 32 := 1#32
  let v22 : BitVec 1 := Scalar.cmpi .eq v21 v8
  let c0_i32 : BitVec 32 := 0#32
  let c0_i32_9 : BitVec 32 := 0#32
  let v23 : BitVec 32 := Scalar.select v22 c0_i32 c0_i32_9
  let v26 : BitVec 32 := Scalar.select v25 c1_i32_10 v23
  let v29 : BitVec 32 := Scalar.select v28 c2_i32_11 v26
  let v32 : BitVec 32 := Scalar.select v31 c3_i32 v29
  let c1_i32_16 : BitVec 32 := 1#32
  let v38 : BitVec 32 := Scalar.muli v32 c1_i32_16
  let v39 : BitVec 32 := Scalar.addi v37 v38
  v39.toNat

def k0_chk1 (d0 : Dev nD) (v21 : BitVec 32) (v24 : BitVec 32) (v27 : BitVec 32) (v30 : BitVec 32) : Prop :=
  ((k0_dev1 d0 v21 v24 v27 v30) < nD)
theorem k0_dev1_lt : ∀ (d0 : Dev nD) (v21 : BitVec 32) (v24 : BitVec 32) (v27 : BitVec 32) (v30 : BitVec 32) (k0_hw1 : k0_chk1 d0 v21 v24 v27 v30), (k0_dev1 d0 v21 v24 v27 v30) < nD := fun d0 v21 v24 v27 v30 k0_hw1 => k0_hw1

def k0_dev2 (d0 : Dev nD) : Nat :=
  let c0_i32_19 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_18 : BitVec 32 := 8#32
  let v40 : BitVec 32 := Scalar.muli v19 c8_i32_18
  let v41 : BitVec 32 := Scalar.addi c0_i32_19 v40
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_20 : BitVec 32 := 4#32
  let v42 : BitVec 32 := Scalar.muli v5 c4_i32_20
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v44 : BitVec 32 := Scalar.muli v8 c1_i32_21
  let v45 : BitVec 32 := Scalar.addi v43 v44
  v45.toNat
def k0_dev3 (d0 : Dev nD) : Nat :=
  let c0_i32_24 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_23 : BitVec 32 := 8#32
  let v46 : BitVec 32 := Scalar.muli v2 c8_i32_23
  let v47 : BitVec 32 := Scalar.addi c0_i32_24 v46
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_25 : BitVec 32 := 4#32
  let v48 : BitVec 32 := Scalar.muli v20 c4_i32_25
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v50 : BitVec 32 := Scalar.muli v8 c1_i32_26
  let v51 : BitVec 32 := Scalar.addi v49 v50
  v51.toNat
def k0_off2 (d0 : Dev nD) : Fin 3 → Nat :=
  let c0_i32_82 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.addi v11 v5
  let c512_i32_29 : BitVec 32 := 512#32
  let v54 : BitVec 32 := Scalar.muli v12 c512_i32_29
  let c0_i32_30 : BitVec 32 := 0#32
  let v55 : BitVec 32 := Scalar.addi v54 c0_i32_30
  let c0_i32_83 : BitVec 32 := 0#32
  ![0, v55.toNat, 0]
def k0_dev4 (d0 : Dev nD) (v10 : BitVec 32) : Nat :=
  let c0_i32_79 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_78 : BitVec 32 := 8#32
  let v116 : BitVec 32 := Scalar.muli v2 c8_i32_78
  let v117 : BitVec 32 := Scalar.addi c0_i32_79 v116
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_80 : BitVec 32 := 4#32
  let v118 : BitVec 32 := Scalar.muli v5 c4_i32_80
  let v119 : BitVec 32 := Scalar.addi v117 v118
  let c1_i32_81 : BitVec 32 := 1#32
  let v120 : BitVec 32 := Scalar.muli v10 c1_i32_81
  let v121 : BitVec 32 := Scalar.addi v119 v120
  v121.toNat

def k0_off3 (d0 : Dev nD) (c32_i32_33 : BitVec 32) : Fin 3 → Nat :=
  let c0_i32_92 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.addi v11 v5
  let c512_i32_32 : BitVec 32 := 512#32
  let v58 : BitVec 32 := Scalar.muli v12 c512_i32_32
  let v59 : BitVec 32 := Scalar.addi v58 c32_i32_33
  let c0_i32_93 : BitVec 32 := 0#32
  ![0, v59.toNat, 0]
def k0_dev5 (d0 : Dev nD) (v10 : BitVec 32) : Nat :=
  let c0_i32_89 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_88 : BitVec 32 := 8#32
  let v128 : BitVec 32 := Scalar.muli v2 c8_i32_88
  let v129 : BitVec 32 := Scalar.addi c0_i32_89 v128
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_90 : BitVec 32 := 4#32
  let v130 : BitVec 32 := Scalar.muli v5 c4_i32_90
  let v131 : BitVec 32 := Scalar.addi v129 v130
  let c1_i32_91 : BitVec 32 := 1#32
  let v132 : BitVec 32 := Scalar.muli v10 c1_i32_91
  let v133 : BitVec 32 := Scalar.addi v131 v132
  v133.toNat
def k0_dev6 (d0 : Dev nD) (v10 : BitVec 32) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_98 : BitVec 32 := 8#32
  let v140 : BitVec 32 := Scalar.muli v2 c8_i32_98
  let v141 : BitVec 32 := Scalar.addi c0_i32_99 v140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_100 : BitVec 32 := 4#32
  let v142 : BitVec 32 := Scalar.muli v5 c4_i32_100
  let v143 : BitVec 32 := Scalar.addi v141 v142
  let c1_i32_101 : BitVec 32 := 1#32
  let v144 : BitVec 32 := Scalar.muli v10 c1_i32_101
  let v145 : BitVec 32 := Scalar.addi v143 v144
  v145.toNat
def k0_dev7 (d0 : Dev nD) (v10 : BitVec 32) : Nat :=
  let c0_i32_109 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_108 : BitVec 32 := 8#32
  let v152 : BitVec 32 := Scalar.muli v2 c8_i32_108
  let v153 : BitVec 32 := Scalar.addi c0_i32_109 v152
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_110 : BitVec 32 := 4#32
  let v154 : BitVec 32 := Scalar.muli v5 c4_i32_110
  let v155 : BitVec 32 := Scalar.addi v153 v154
  let c1_i32_111 : BitVec 32 := 1#32
  let v156 : BitVec 32 := Scalar.muli v10 c1_i32_111
  let v157 : BitVec 32 := Scalar.addi v155 v156
  v157.toNat
def k0_dev8 (d0 : Dev nD) (v10 : BitVec 32) : Nat :=
  let c0_i32_119 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_118 : BitVec 32 := 8#32
  let v164 : BitVec 32 := Scalar.muli v2 c8_i32_118
  let v165 : BitVec 32 := Scalar.addi c0_i32_119 v164
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_120 : BitVec 32 := 4#32
  let v166 : BitVec 32 := Scalar.muli v5 c4_i32_120
  let v167 : BitVec 32 := Scalar.addi v165 v166
  let c1_i32_121 : BitVec 32 := 1#32
  let v168 : BitVec 32 := Scalar.muli v10 c1_i32_121
  let v169 : BitVec 32 := Scalar.addi v167 v168
  v169.toNat
def k0_dev9 (d0 : Dev nD) (v10 : BitVec 32) : Nat :=
  let c0_i32_128 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_127 : BitVec 32 := 8#32
  let v176 : BitVec 32 := Scalar.muli v2 c8_i32_127
  let v177 : BitVec 32 := Scalar.addi c0_i32_128 v176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_129 : BitVec 32 := 4#32
  let v178 : BitVec 32 := Scalar.muli v5 c4_i32_129
  let v179 : BitVec 32 := Scalar.addi v177 v178
  let c1_i32_130 : BitVec 32 := 1#32
  let v180 : BitVec 32 := Scalar.muli v10 c1_i32_130
  let v181 : BitVec 32 := Scalar.addi v179 v180
  v181.toNat
def k0_dev10 (d0 : Dev nD) (v10 : BitVec 32) : Nat :=
  let c0_i32_137 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_136 : BitVec 32 := 8#32
  let v188 : BitVec 32 := Scalar.muli v2 c8_i32_136
  let v189 : BitVec 32 := Scalar.addi c0_i32_137 v188
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_138 : BitVec 32 := 4#32
  let v190 : BitVec 32 := Scalar.muli v5 c4_i32_138
  let v191 : BitVec 32 := Scalar.addi v189 v190
  let c1_i32_139 : BitVec 32 := 1#32
  let v192 : BitVec 32 := Scalar.muli v10 c1_i32_139
  let v193 : BitVec 32 := Scalar.addi v191 v192
  v193.toNat
def k0_dev11 (d0 : Dev nD) (v10 : BitVec 32) : Nat :=
  let c0_i32_146 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_145 : BitVec 32 := 8#32
  let v200 : BitVec 32 := Scalar.muli v2 c8_i32_145
  let v201 : BitVec 32 := Scalar.addi c0_i32_146 v200
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_147 : BitVec 32 := 4#32
  let v202 : BitVec 32 := Scalar.muli v5 c4_i32_147
  let v203 : BitVec 32 := Scalar.addi v201 v202
  let c1_i32_148 : BitVec 32 := 1#32
  let v204 : BitVec 32 := Scalar.muli v10 c1_i32_148
  let v205 : BitVec 32 := Scalar.addi v203 v204
  v205.toNat
def k0_dev12 (d0 : Dev nD) (v10 : BitVec 32) : Nat :=
  let c0_i32_156 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_155 : BitVec 32 := 8#32
  let v212 : BitVec 32 := Scalar.muli v2 c8_i32_155
  let v213 : BitVec 32 := Scalar.addi c0_i32_156 v212
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_157 : BitVec 32 := 4#32
  let v214 : BitVec 32 := Scalar.muli v5 c4_i32_157
  let v215 : BitVec 32 := Scalar.addi v213 v214
  let c1_i32_158 : BitVec 32 := 1#32
  let v216 : BitVec 32 := Scalar.muli v10 c1_i32_158
  let v217 : BitVec 32 := Scalar.addi v215 v216
  v217.toNat
def k0_dev13 (d0 : Dev nD) (v10 : BitVec 32) : Nat :=
  let c0_i32_165 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_164 : BitVec 32 := 8#32
  let v224 : BitVec 32 := Scalar.muli v2 c8_i32_164
  let v225 : BitVec 32 := Scalar.addi c0_i32_165 v224
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_166 : BitVec 32 := 4#32
  let v226 : BitVec 32 := Scalar.muli v5 c4_i32_166
  let v227 : BitVec 32 := Scalar.addi v225 v226
  let c1_i32_167 : BitVec 32 := 1#32
  let v228 : BitVec 32 := Scalar.muli v10 c1_i32_167
  let v229 : BitVec 32 := Scalar.addi v227 v228
  v229.toNat
def k0_dev14 (d0 : Dev nD) (v10 : BitVec 32) : Nat :=
  let c0_i32_174 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_173 : BitVec 32 := 8#32
  let v236 : BitVec 32 := Scalar.muli v2 c8_i32_173
  let v237 : BitVec 32 := Scalar.addi c0_i32_174 v236
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_175 : BitVec 32 := 4#32
  let v238 : BitVec 32 := Scalar.muli v5 c4_i32_175
  let v239 : BitVec 32 := Scalar.addi v237 v238
  let c1_i32_176 : BitVec 32 := 1#32
  let v240 : BitVec 32 := Scalar.muli v10 c1_i32_176
  let v241 : BitVec 32 := Scalar.addi v239 v240
  v241.toNat
def k0_dev15 (d0 : Dev nD) (v10 : BitVec 32) : Nat :=
  let c0_i32_183 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_182 : BitVec 32 := 8#32
  let v248 : BitVec 32 := Scalar.muli v2 c8_i32_182
  let v249 : BitVec 32 := Scalar.addi c0_i32_183 v248
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_184 : BitVec 32 := 4#32
  let v250 : BitVec 32 := Scalar.muli v5 c4_i32_184
  let v251 : BitVec 32 := Scalar.addi v249 v250
  let c1_i32_185 : BitVec 32 := 1#32
  let v252 : BitVec 32 := Scalar.muli v10 c1_i32_185
  let v253 : BitVec 32 := Scalar.addi v251 v252
  v253.toNat
def k0_dev16 (d0 : Dev nD) (v10 : BitVec 32) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_191 : BitVec 32 := 8#32
  let v260 : BitVec 32 := Scalar.muli v2 c8_i32_191
  let v261 : BitVec 32 := Scalar.addi c0_i32_192 v260
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_193 : BitVec 32 := 4#32
  let v262 : BitVec 32 := Scalar.muli v5 c4_i32_193
  let v263 : BitVec 32 := Scalar.addi v261 v262
  let c1_i32_194 : BitVec 32 := 1#32
  let v264 : BitVec 32 := Scalar.muli v10 c1_i32_194
  let v265 : BitVec 32 := Scalar.addi v263 v264
  v265.toNat
def k0_dev17 (d0 : Dev nD) (v10 : BitVec 32) : Nat :=
  let c0_i32_201 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_200 : BitVec 32 := 8#32
  let v272 : BitVec 32 := Scalar.muli v2 c8_i32_200
  let v273 : BitVec 32 := Scalar.addi c0_i32_201 v272
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_202 : BitVec 32 := 4#32
  let v274 : BitVec 32 := Scalar.muli v5 c4_i32_202
  let v275 : BitVec 32 := Scalar.addi v273 v274
  let c1_i32_203 : BitVec 32 := 1#32
  let v276 : BitVec 32 := Scalar.muli v10 c1_i32_203
  let v277 : BitVec 32 := Scalar.addi v275 v276
  v277.toNat
def k0_dev18 (d0 : Dev nD) (v10 : BitVec 32) : Nat :=
  let c0_i32_210 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_209 : BitVec 32 := 8#32
  let v284 : BitVec 32 := Scalar.muli v2 c8_i32_209
  let v285 : BitVec 32 := Scalar.addi c0_i32_210 v284
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_211 : BitVec 32 := 4#32
  let v286 : BitVec 32 := Scalar.muli v5 c4_i32_211
  let v287 : BitVec 32 := Scalar.addi v285 v286
  let c1_i32_212 : BitVec 32 := 1#32
  let v288 : BitVec 32 := Scalar.muli v10 c1_i32_212
  let v289 : BitVec 32 := Scalar.addi v287 v288
  v289.toNat
def k0_dev19 (d0 : Dev nD) (v10 : BitVec 32) : Nat :=
  let c0_i32_219 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_218 : BitVec 32 := 8#32
  let v296 : BitVec 32 := Scalar.muli v2 c8_i32_218
  let v297 : BitVec 32 := Scalar.addi c0_i32_219 v296
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_220 : BitVec 32 := 4#32
  let v298 : BitVec 32 := Scalar.muli v5 c4_i32_220
  let v299 : BitVec 32 := Scalar.addi v297 v298
  let c1_i32_221 : BitVec 32 := 1#32
  let v300 : BitVec 32 := Scalar.muli v10 c1_i32_221
  let v301 : BitVec 32 := Scalar.addi v299 v300
  v301.toNat

def k0_chk2 (d0 : Dev nD) (v10 : BitVec 32) : Prop :=
  ((k0_dev4 d0 v10) < nD) ∧
  ((k0_dev5 d0 v10) < nD) ∧
  ((k0_dev6 d0 v10) < nD) ∧
  ((k0_dev7 d0 v10) < nD) ∧
  ((k0_dev8 d0 v10) < nD) ∧
  ((k0_dev9 d0 v10) < nD) ∧
  ((k0_dev10 d0 v10) < nD) ∧
  ((k0_dev11 d0 v10) < nD) ∧
  ((k0_dev12 d0 v10) < nD) ∧
  ((k0_dev13 d0 v10) < nD) ∧
  ((k0_dev14 d0 v10) < nD) ∧
  ((k0_dev15 d0 v10) < nD) ∧
  ((k0_dev16 d0 v10) < nD) ∧
  ((k0_dev17 d0 v10) < nD) ∧
  ((k0_dev18 d0 v10) < nD) ∧
  ((k0_dev19 d0 v10) < nD)
theorem k0_dev4_lt : ∀ (d0 : Dev nD) (v10 : BitVec 32) (k0_hw2 : k0_chk2 d0 v10), (k0_dev4 d0 v10) < nD := fun d0 v10 k0_hw2 => k0_hw2.1
theorem k0_dev5_lt : ∀ (d0 : Dev nD) (v10 : BitVec 32) (k0_hw2 : k0_chk2 d0 v10), (k0_dev5 d0 v10) < nD := fun d0 v10 k0_hw2 => k0_hw2.2.1
theorem k0_dev6_lt : ∀ (d0 : Dev nD) (v10 : BitVec 32) (k0_hw2 : k0_chk2 d0 v10), (k0_dev6 d0 v10) < nD := fun d0 v10 k0_hw2 => k0_hw2.2.2.1
theorem k0_dev7_lt : ∀ (d0 : Dev nD) (v10 : BitVec 32) (k0_hw2 : k0_chk2 d0 v10), (k0_dev7 d0 v10) < nD := fun d0 v10 k0_hw2 => k0_hw2.2.2.2.1
theorem k0_dev8_lt : ∀ (d0 : Dev nD) (v10 : BitVec 32) (k0_hw2 : k0_chk2 d0 v10), (k0_dev8 d0 v10) < nD := fun d0 v10 k0_hw2 => k0_hw2.2.2.2.2.1
theorem k0_dev9_lt : ∀ (d0 : Dev nD) (v10 : BitVec 32) (k0_hw2 : k0_chk2 d0 v10), (k0_dev9 d0 v10) < nD := fun d0 v10 k0_hw2 => k0_hw2.2.2.2.2.2.1
theorem k0_dev10_lt : ∀ (d0 : Dev nD) (v10 : BitVec 32) (k0_hw2 : k0_chk2 d0 v10), (k0_dev10 d0 v10) < nD := fun d0 v10 k0_hw2 => k0_hw2.2.2.2.2.2.2.1
theorem k0_dev11_lt : ∀ (d0 : Dev nD) (v10 : BitVec 32) (k0_hw2 : k0_chk2 d0 v10), (k0_dev11 d0 v10) < nD := fun d0 v10 k0_hw2 => k0_hw2.2.2.2.2.2.2.2.1
theorem k0_dev12_lt : ∀ (d0 : Dev nD) (v10 : BitVec 32) (k0_hw2 : k0_chk2 d0 v10), (k0_dev12 d0 v10) < nD := fun d0 v10 k0_hw2 => k0_hw2.2.2.2.2.2.2.2.2.1
theorem k0_dev13_lt : ∀ (d0 : Dev nD) (v10 : BitVec 32) (k0_hw2 : k0_chk2 d0 v10), (k0_dev13 d0 v10) < nD := fun d0 v10 k0_hw2 => k0_hw2.2.2.2.2.2.2.2.2.2.1
theorem k0_dev14_lt : ∀ (d0 : Dev nD) (v10 : BitVec 32) (k0_hw2 : k0_chk2 d0 v10), (k0_dev14 d0 v10) < nD := fun d0 v10 k0_hw2 => k0_hw2.2.2.2.2.2.2.2.2.2.2.1
theorem k0_dev15_lt : ∀ (d0 : Dev nD) (v10 : BitVec 32) (k0_hw2 : k0_chk2 d0 v10), (k0_dev15 d0 v10) < nD := fun d0 v10 k0_hw2 => k0_hw2.2.2.2.2.2.2.2.2.2.2.2.1
theorem k0_dev16_lt : ∀ (d0 : Dev nD) (v10 : BitVec 32) (k0_hw2 : k0_chk2 d0 v10), (k0_dev16 d0 v10) < nD := fun d0 v10 k0_hw2 => k0_hw2.2.2.2.2.2.2.2.2.2.2.2.2.1
theorem k0_dev17_lt : ∀ (d0 : Dev nD) (v10 : BitVec 32) (k0_hw2 : k0_chk2 d0 v10), (k0_dev17 d0 v10) < nD := fun d0 v10 k0_hw2 => k0_hw2.2.2.2.2.2.2.2.2.2.2.2.2.2.1
theorem k0_dev18_lt : ∀ (d0 : Dev nD) (v10 : BitVec 32) (k0_hw2 : k0_chk2 d0 v10), (k0_dev18 d0 v10) < nD := fun d0 v10 k0_hw2 => k0_hw2.2.2.2.2.2.2.2.2.2.2.2.2.2.2.1
theorem k0_dev19_lt : ∀ (d0 : Dev nD) (v10 : BitVec 32) (k0_hw2 : k0_chk2 d0 v10), (k0_dev19 d0 v10) < nD := fun d0 v10 k0_hw2 => k0_hw2.2.2.2.2.2.2.2.2.2.2.2.2.2.2.2

def k0_dev20 (d0 : Dev nD) : Nat :=
  let c0_i32_433 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_432 : BitVec 32 := 8#32
  let v510 : BitVec 32 := Scalar.muli v19 c8_i32_432
  let v511 : BitVec 32 := Scalar.addi c0_i32_433 v510
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_434 : BitVec 32 := 4#32
  let v512 : BitVec 32 := Scalar.muli v5 c4_i32_434
  let v513 : BitVec 32 := Scalar.addi v511 v512
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_435 : BitVec 32 := 1#32
  let v514 : BitVec 32 := Scalar.muli v8 c1_i32_435
  let v515 : BitVec 32 := Scalar.addi v513 v514
  v515.toNat
def k0_dev21 (d0 : Dev nD) : Nat :=
  let c0_i32_443 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_442 : BitVec 32 := 8#32
  let v522 : BitVec 32 := Scalar.muli v2 c8_i32_442
  let v523 : BitVec 32 := Scalar.addi c0_i32_443 v522
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_444 : BitVec 32 := 4#32
  let v524 : BitVec 32 := Scalar.muli v20 c4_i32_444
  let v525 : BitVec 32 := Scalar.addi v523 v524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_445 : BitVec 32 := 1#32
  let v526 : BitVec 32 := Scalar.muli v8 c1_i32_445
  let v527 : BitVec 32 := Scalar.addi v525 v526
  v527.toNat
def k0_dev22 (d0 : Dev nD) : Nat :=
  let c0_i32_463 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_462 : BitVec 32 := 8#32
  let v544 : BitVec 32 := Scalar.muli v19 c8_i32_462
  let v545 : BitVec 32 := Scalar.addi c0_i32_463 v544
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_464 : BitVec 32 := 4#32
  let v546 : BitVec 32 := Scalar.muli v5 c4_i32_464
  let v547 : BitVec 32 := Scalar.addi v545 v546
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_465 : BitVec 32 := 1#32
  let v548 : BitVec 32 := Scalar.muli v8 c1_i32_465
  let v549 : BitVec 32 := Scalar.addi v547 v548
  v549.toNat
def k0_dev23 (d0 : Dev nD) : Nat :=
  let c0_i32_473 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_472 : BitVec 32 := 8#32
  let v556 : BitVec 32 := Scalar.muli v2 c8_i32_472
  let v557 : BitVec 32 := Scalar.addi c0_i32_473 v556
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_474 : BitVec 32 := 4#32
  let v558 : BitVec 32 := Scalar.muli v20 c4_i32_474
  let v559 : BitVec 32 := Scalar.addi v557 v558
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_475 : BitVec 32 := 1#32
  let v560 : BitVec 32 := Scalar.muli v8 c1_i32_475
  let v561 : BitVec 32 := Scalar.addi v559 v560
  v561.toNat
def k0_dev24 (d0 : Dev nD) : Nat :=
  let c0_i32_493 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_492 : BitVec 32 := 8#32
  let v578 : BitVec 32 := Scalar.muli v19 c8_i32_492
  let v579 : BitVec 32 := Scalar.addi c0_i32_493 v578
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_494 : BitVec 32 := 4#32
  let v580 : BitVec 32 := Scalar.muli v5 c4_i32_494
  let v581 : BitVec 32 := Scalar.addi v579 v580
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_495 : BitVec 32 := 1#32
  let v582 : BitVec 32 := Scalar.muli v8 c1_i32_495
  let v583 : BitVec 32 := Scalar.addi v581 v582
  v583.toNat
def k0_dev25 (d0 : Dev nD) : Nat :=
  let c0_i32_503 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_502 : BitVec 32 := 8#32
  let v590 : BitVec 32 := Scalar.muli v2 c8_i32_502
  let v591 : BitVec 32 := Scalar.addi c0_i32_503 v590
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_504 : BitVec 32 := 4#32
  let v592 : BitVec 32 := Scalar.muli v20 c4_i32_504
  let v593 : BitVec 32 := Scalar.addi v591 v592
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_505 : BitVec 32 := 1#32
  let v594 : BitVec 32 := Scalar.muli v8 c1_i32_505
  let v595 : BitVec 32 := Scalar.addi v593 v594
  v595.toNat
def k0_dev26 (d0 : Dev nD) : Nat :=
  let c0_i32_523 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_522 : BitVec 32 := 8#32
  let v612 : BitVec 32 := Scalar.muli v19 c8_i32_522
  let v613 : BitVec 32 := Scalar.addi c0_i32_523 v612
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_524 : BitVec 32 := 4#32
  let v614 : BitVec 32 := Scalar.muli v5 c4_i32_524
  let v615 : BitVec 32 := Scalar.addi v613 v614
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_525 : BitVec 32 := 1#32
  let v616 : BitVec 32 := Scalar.muli v8 c1_i32_525
  let v617 : BitVec 32 := Scalar.addi v615 v616
  v617.toNat
def k0_dev27 (d0 : Dev nD) : Nat :=
  let c0_i32_533 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_532 : BitVec 32 := 8#32
  let v624 : BitVec 32 := Scalar.muli v2 c8_i32_532
  let v625 : BitVec 32 := Scalar.addi c0_i32_533 v624
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_534 : BitVec 32 := 4#32
  let v626 : BitVec 32 := Scalar.muli v20 c4_i32_534
  let v627 : BitVec 32 := Scalar.addi v625 v626
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_535 : BitVec 32 := 1#32
  let v628 : BitVec 32 := Scalar.muli v8 c1_i32_535
  let v629 : BitVec 32 := Scalar.addi v627 v628
  v629.toNat
def k0_dev28 (d0 : Dev nD) : Nat :=
  let c0_i32_553 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_552 : BitVec 32 := 8#32
  let v646 : BitVec 32 := Scalar.muli v19 c8_i32_552
  let v647 : BitVec 32 := Scalar.addi c0_i32_553 v646
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_554 : BitVec 32 := 4#32
  let v648 : BitVec 32 := Scalar.muli v5 c4_i32_554
  let v649 : BitVec 32 := Scalar.addi v647 v648
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_555 : BitVec 32 := 1#32
  let v650 : BitVec 32 := Scalar.muli v8 c1_i32_555
  let v651 : BitVec 32 := Scalar.addi v649 v650
  v651.toNat
def k0_dev29 (d0 : Dev nD) : Nat :=
  let c0_i32_563 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_562 : BitVec 32 := 8#32
  let v658 : BitVec 32 := Scalar.muli v2 c8_i32_562
  let v659 : BitVec 32 := Scalar.addi c0_i32_563 v658
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_564 : BitVec 32 := 4#32
  let v660 : BitVec 32 := Scalar.muli v20 c4_i32_564
  let v661 : BitVec 32 := Scalar.addi v659 v660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_565 : BitVec 32 := 1#32
  let v662 : BitVec 32 := Scalar.muli v8 c1_i32_565
  let v663 : BitVec 32 := Scalar.addi v661 v662
  v663.toNat
def k0_dev30 (d0 : Dev nD) : Nat :=
  let c0_i32_583 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_582 : BitVec 32 := 8#32
  let v680 : BitVec 32 := Scalar.muli v19 c8_i32_582
  let v681 : BitVec 32 := Scalar.addi c0_i32_583 v680
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_584 : BitVec 32 := 4#32
  let v682 : BitVec 32 := Scalar.muli v5 c4_i32_584
  let v683 : BitVec 32 := Scalar.addi v681 v682
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_585 : BitVec 32 := 1#32
  let v684 : BitVec 32 := Scalar.muli v8 c1_i32_585
  let v685 : BitVec 32 := Scalar.addi v683 v684
  v685.toNat
def k0_dev31 (d0 : Dev nD) : Nat :=
  let c0_i32_593 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_592 : BitVec 32 := 8#32
  let v692 : BitVec 32 := Scalar.muli v2 c8_i32_592
  let v693 : BitVec 32 := Scalar.addi c0_i32_593 v692
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_594 : BitVec 32 := 4#32
  let v694 : BitVec 32 := Scalar.muli v20 c4_i32_594
  let v695 : BitVec 32 := Scalar.addi v693 v694
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_595 : BitVec 32 := 1#32
  let v696 : BitVec 32 := Scalar.muli v8 c1_i32_595
  let v697 : BitVec 32 := Scalar.addi v695 v696
  v697.toNat
def k0_dev32 (d0 : Dev nD) : Nat :=
  let c0_i32_613 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_612 : BitVec 32 := 8#32
  let v714 : BitVec 32 := Scalar.muli v19 c8_i32_612
  let v715 : BitVec 32 := Scalar.addi c0_i32_613 v714
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_614 : BitVec 32 := 4#32
  let v716 : BitVec 32 := Scalar.muli v5 c4_i32_614
  let v717 : BitVec 32 := Scalar.addi v715 v716
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_615 : BitVec 32 := 1#32
  let v718 : BitVec 32 := Scalar.muli v8 c1_i32_615
  let v719 : BitVec 32 := Scalar.addi v717 v718
  v719.toNat
def k0_dev33 (d0 : Dev nD) : Nat :=
  let c0_i32_623 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_622 : BitVec 32 := 8#32
  let v726 : BitVec 32 := Scalar.muli v2 c8_i32_622
  let v727 : BitVec 32 := Scalar.addi c0_i32_623 v726
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_624 : BitVec 32 := 4#32
  let v728 : BitVec 32 := Scalar.muli v20 c4_i32_624
  let v729 : BitVec 32 := Scalar.addi v727 v728
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_625 : BitVec 32 := 1#32
  let v730 : BitVec 32 := Scalar.muli v8 c1_i32_625
  let v731 : BitVec 32 := Scalar.addi v729 v730
  v731.toNat
def k0_dev34 (d0 : Dev nD) : Nat :=
  let c0_i32_643 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_642 : BitVec 32 := 8#32
  let v748 : BitVec 32 := Scalar.muli v19 c8_i32_642
  let v749 : BitVec 32 := Scalar.addi c0_i32_643 v748
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_644 : BitVec 32 := 4#32
  let v750 : BitVec 32 := Scalar.muli v5 c4_i32_644
  let v751 : BitVec 32 := Scalar.addi v749 v750
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_645 : BitVec 32 := 1#32
  let v752 : BitVec 32 := Scalar.muli v8 c1_i32_645
  let v753 : BitVec 32 := Scalar.addi v751 v752
  v753.toNat
def k0_dev35 (d0 : Dev nD) : Nat :=
  let c0_i32_653 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_652 : BitVec 32 := 8#32
  let v760 : BitVec 32 := Scalar.muli v2 c8_i32_652
  let v761 : BitVec 32 := Scalar.addi c0_i32_653 v760
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_654 : BitVec 32 := 4#32
  let v762 : BitVec 32 := Scalar.muli v20 c4_i32_654
  let v763 : BitVec 32 := Scalar.addi v761 v762
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_655 : BitVec 32 := 1#32
  let v764 : BitVec 32 := Scalar.muli v8 c1_i32_655
  let v765 : BitVec 32 := Scalar.addi v763 v764
  v765.toNat
def k0_dev36 (d0 : Dev nD) : Nat :=
  let c0_i32_673 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_672 : BitVec 32 := 8#32
  let v782 : BitVec 32 := Scalar.muli v19 c8_i32_672
  let v783 : BitVec 32 := Scalar.addi c0_i32_673 v782
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_674 : BitVec 32 := 4#32
  let v784 : BitVec 32 := Scalar.muli v5 c4_i32_674
  let v785 : BitVec 32 := Scalar.addi v783 v784
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_675 : BitVec 32 := 1#32
  let v786 : BitVec 32 := Scalar.muli v8 c1_i32_675
  let v787 : BitVec 32 := Scalar.addi v785 v786
  v787.toNat
def k0_dev37 (d0 : Dev nD) : Nat :=
  let c0_i32_683 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_682 : BitVec 32 := 8#32
  let v794 : BitVec 32 := Scalar.muli v2 c8_i32_682
  let v795 : BitVec 32 := Scalar.addi c0_i32_683 v794
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_684 : BitVec 32 := 4#32
  let v796 : BitVec 32 := Scalar.muli v20 c4_i32_684
  let v797 : BitVec 32 := Scalar.addi v795 v796
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_685 : BitVec 32 := 1#32
  let v798 : BitVec 32 := Scalar.muli v8 c1_i32_685
  let v799 : BitVec 32 := Scalar.addi v797 v798
  v799.toNat
def k0_dev38 (d0 : Dev nD) : Nat :=
  let c0_i32_703 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_702 : BitVec 32 := 8#32
  let v816 : BitVec 32 := Scalar.muli v19 c8_i32_702
  let v817 : BitVec 32 := Scalar.addi c0_i32_703 v816
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_704 : BitVec 32 := 4#32
  let v818 : BitVec 32 := Scalar.muli v5 c4_i32_704
  let v819 : BitVec 32 := Scalar.addi v817 v818
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_705 : BitVec 32 := 1#32
  let v820 : BitVec 32 := Scalar.muli v8 c1_i32_705
  let v821 : BitVec 32 := Scalar.addi v819 v820
  v821.toNat
def k0_dev39 (d0 : Dev nD) : Nat :=
  let c0_i32_713 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_712 : BitVec 32 := 8#32
  let v828 : BitVec 32 := Scalar.muli v2 c8_i32_712
  let v829 : BitVec 32 := Scalar.addi c0_i32_713 v828
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_714 : BitVec 32 := 4#32
  let v830 : BitVec 32 := Scalar.muli v20 c4_i32_714
  let v831 : BitVec 32 := Scalar.addi v829 v830
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_715 : BitVec 32 := 1#32
  let v832 : BitVec 32 := Scalar.muli v8 c1_i32_715
  let v833 : BitVec 32 := Scalar.addi v831 v832
  v833.toNat
def k0_dev40 (d0 : Dev nD) : Nat :=
  let c0_i32_733 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_732 : BitVec 32 := 8#32
  let v850 : BitVec 32 := Scalar.muli v19 c8_i32_732
  let v851 : BitVec 32 := Scalar.addi c0_i32_733 v850
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_734 : BitVec 32 := 4#32
  let v852 : BitVec 32 := Scalar.muli v5 c4_i32_734
  let v853 : BitVec 32 := Scalar.addi v851 v852
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_735 : BitVec 32 := 1#32
  let v854 : BitVec 32 := Scalar.muli v8 c1_i32_735
  let v855 : BitVec 32 := Scalar.addi v853 v854
  v855.toNat
def k0_dev41 (d0 : Dev nD) : Nat :=
  let c0_i32_743 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_742 : BitVec 32 := 8#32
  let v862 : BitVec 32 := Scalar.muli v2 c8_i32_742
  let v863 : BitVec 32 := Scalar.addi c0_i32_743 v862
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_744 : BitVec 32 := 4#32
  let v864 : BitVec 32 := Scalar.muli v20 c4_i32_744
  let v865 : BitVec 32 := Scalar.addi v863 v864
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_745 : BitVec 32 := 1#32
  let v866 : BitVec 32 := Scalar.muli v8 c1_i32_745
  let v867 : BitVec 32 := Scalar.addi v865 v866
  v867.toNat
def k0_dev42 (d0 : Dev nD) : Nat :=
  let c0_i32_763 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_762 : BitVec 32 := 8#32
  let v884 : BitVec 32 := Scalar.muli v19 c8_i32_762
  let v885 : BitVec 32 := Scalar.addi c0_i32_763 v884
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_764 : BitVec 32 := 4#32
  let v886 : BitVec 32 := Scalar.muli v5 c4_i32_764
  let v887 : BitVec 32 := Scalar.addi v885 v886
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_765 : BitVec 32 := 1#32
  let v888 : BitVec 32 := Scalar.muli v8 c1_i32_765
  let v889 : BitVec 32 := Scalar.addi v887 v888
  v889.toNat
def k0_dev43 (d0 : Dev nD) : Nat :=
  let c0_i32_773 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_772 : BitVec 32 := 8#32
  let v896 : BitVec 32 := Scalar.muli v2 c8_i32_772
  let v897 : BitVec 32 := Scalar.addi c0_i32_773 v896
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_774 : BitVec 32 := 4#32
  let v898 : BitVec 32 := Scalar.muli v20 c4_i32_774
  let v899 : BitVec 32 := Scalar.addi v897 v898
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_775 : BitVec 32 := 1#32
  let v900 : BitVec 32 := Scalar.muli v8 c1_i32_775
  let v901 : BitVec 32 := Scalar.addi v899 v900
  v901.toNat
def k0_dev44 (d0 : Dev nD) : Nat :=
  let c0_i32_793 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_792 : BitVec 32 := 8#32
  let v918 : BitVec 32 := Scalar.muli v19 c8_i32_792
  let v919 : BitVec 32 := Scalar.addi c0_i32_793 v918
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_794 : BitVec 32 := 4#32
  let v920 : BitVec 32 := Scalar.muli v5 c4_i32_794
  let v921 : BitVec 32 := Scalar.addi v919 v920
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_795 : BitVec 32 := 1#32
  let v922 : BitVec 32 := Scalar.muli v8 c1_i32_795
  let v923 : BitVec 32 := Scalar.addi v921 v922
  v923.toNat
def k0_dev45 (d0 : Dev nD) : Nat :=
  let c0_i32_803 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_802 : BitVec 32 := 8#32
  let v930 : BitVec 32 := Scalar.muli v2 c8_i32_802
  let v931 : BitVec 32 := Scalar.addi c0_i32_803 v930
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_804 : BitVec 32 := 4#32
  let v932 : BitVec 32 := Scalar.muli v20 c4_i32_804
  let v933 : BitVec 32 := Scalar.addi v931 v932
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_805 : BitVec 32 := 1#32
  let v934 : BitVec 32 := Scalar.muli v8 c1_i32_805
  let v935 : BitVec 32 := Scalar.addi v933 v934
  v935.toNat
def k0_dev46 (d0 : Dev nD) : Nat :=
  let c0_i32_823 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_822 : BitVec 32 := 8#32
  let v952 : BitVec 32 := Scalar.muli v19 c8_i32_822
  let v953 : BitVec 32 := Scalar.addi c0_i32_823 v952
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_824 : BitVec 32 := 4#32
  let v954 : BitVec 32 := Scalar.muli v5 c4_i32_824
  let v955 : BitVec 32 := Scalar.addi v953 v954
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_825 : BitVec 32 := 1#32
  let v956 : BitVec 32 := Scalar.muli v8 c1_i32_825
  let v957 : BitVec 32 := Scalar.addi v955 v956
  v957.toNat
def k0_dev47 (d0 : Dev nD) : Nat :=
  let c0_i32_833 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_832 : BitVec 32 := 8#32
  let v964 : BitVec 32 := Scalar.muli v2 c8_i32_832
  let v965 : BitVec 32 := Scalar.addi c0_i32_833 v964
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_834 : BitVec 32 := 4#32
  let v966 : BitVec 32 := Scalar.muli v20 c4_i32_834
  let v967 : BitVec 32 := Scalar.addi v965 v966
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_835 : BitVec 32 := 1#32
  let v968 : BitVec 32 := Scalar.muli v8 c1_i32_835
  let v969 : BitVec 32 := Scalar.addi v967 v968
  v969.toNat
def k0_dev48 (d0 : Dev nD) : Nat :=
  let c0_i32_853 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_852 : BitVec 32 := 8#32
  let v986 : BitVec 32 := Scalar.muli v19 c8_i32_852
  let v987 : BitVec 32 := Scalar.addi c0_i32_853 v986
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_854 : BitVec 32 := 4#32
  let v988 : BitVec 32 := Scalar.muli v5 c4_i32_854
  let v989 : BitVec 32 := Scalar.addi v987 v988
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_855 : BitVec 32 := 1#32
  let v990 : BitVec 32 := Scalar.muli v8 c1_i32_855
  let v991 : BitVec 32 := Scalar.addi v989 v990
  v991.toNat
def k0_dev49 (d0 : Dev nD) : Nat :=
  let c0_i32_863 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_862 : BitVec 32 := 8#32
  let v998 : BitVec 32 := Scalar.muli v2 c8_i32_862
  let v999 : BitVec 32 := Scalar.addi c0_i32_863 v998
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_864 : BitVec 32 := 4#32
  let v1000 : BitVec 32 := Scalar.muli v20 c4_i32_864
  let v1001 : BitVec 32 := Scalar.addi v999 v1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_865 : BitVec 32 := 1#32
  let v1002 : BitVec 32 := Scalar.muli v8 c1_i32_865
  let v1003 : BitVec 32 := Scalar.addi v1001 v1002
  v1003.toNat
def k0_dev50 (d0 : Dev nD) : Nat :=
  let c0_i32_883 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_882 : BitVec 32 := 8#32
  let v1020 : BitVec 32 := Scalar.muli v19 c8_i32_882
  let v1021 : BitVec 32 := Scalar.addi c0_i32_883 v1020
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_884 : BitVec 32 := 4#32
  let v1022 : BitVec 32 := Scalar.muli v5 c4_i32_884
  let v1023 : BitVec 32 := Scalar.addi v1021 v1022
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_885 : BitVec 32 := 1#32
  let v1024 : BitVec 32 := Scalar.muli v8 c1_i32_885
  let v1025 : BitVec 32 := Scalar.addi v1023 v1024
  v1025.toNat
def k0_dev51 (d0 : Dev nD) : Nat :=
  let c0_i32_893 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_892 : BitVec 32 := 8#32
  let v1032 : BitVec 32 := Scalar.muli v2 c8_i32_892
  let v1033 : BitVec 32 := Scalar.addi c0_i32_893 v1032
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_894 : BitVec 32 := 4#32
  let v1034 : BitVec 32 := Scalar.muli v20 c4_i32_894
  let v1035 : BitVec 32 := Scalar.addi v1033 v1034
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_895 : BitVec 32 := 1#32
  let v1036 : BitVec 32 := Scalar.muli v8 c1_i32_895
  let v1037 : BitVec 32 := Scalar.addi v1035 v1036
  v1037.toNat
def k0_off4 (d0 : Dev nD) (c0_i32_359 : BitVec 32) : Fin 3 → Nat :=
  let c0_i32_916 : BitVec 32 := 0#32
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v16 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_6 v5
  let v18 : BitVec 32 := Scalar.addi v16 v17
  let c512_i32_358 : BitVec 32 := 512#32
  let v438 : BitVec 32 := Scalar.muli v18 c512_i32_358
  let v439 : BitVec 32 := Scalar.addi v438 c0_i32_359
  let c0_i32_917 : BitVec 32 := 0#32
  ![0, v439.toNat, 0]
def k0_dev52 (d0 : Dev nD) : Nat :=
  let c0_i32_913 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_912 : BitVec 32 := 8#32
  let v1054 : BitVec 32 := Scalar.muli v19 c8_i32_912
  let v1055 : BitVec 32 := Scalar.addi c0_i32_913 v1054
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_914 : BitVec 32 := 4#32
  let v1056 : BitVec 32 := Scalar.muli v5 c4_i32_914
  let v1057 : BitVec 32 := Scalar.addi v1055 v1056
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_915 : BitVec 32 := 1#32
  let v1058 : BitVec 32 := Scalar.muli v8 c1_i32_915
  let v1059 : BitVec 32 := Scalar.addi v1057 v1058
  v1059.toNat
def k0_off5 (d0 : Dev nD) (c32_i32_363 : BitVec 32) : Fin 3 → Nat :=
  let c0_i32_936 : BitVec 32 := 0#32
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_3 v2
  let v14 : BitVec 32 := Scalar.muli c2_i32_4 v13
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32_362 : BitVec 32 := 512#32
  let v442 : BitVec 32 := Scalar.muli v15 c512_i32_362
  let v443 : BitVec 32 := Scalar.addi v442 c32_i32_363
  let c0_i32_937 : BitVec 32 := 0#32
  ![0, v443.toNat, 0]
def k0_dev53 (d0 : Dev nD) : Nat :=
  let c0_i32_933 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_932 : BitVec 32 := 8#32
  let v1076 : BitVec 32 := Scalar.muli v2 c8_i32_932
  let v1077 : BitVec 32 := Scalar.addi c0_i32_933 v1076
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_934 : BitVec 32 := 4#32
  let v1078 : BitVec 32 := Scalar.muli v20 c4_i32_934
  let v1079 : BitVec 32 := Scalar.addi v1077 v1078
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_935 : BitVec 32 := 1#32
  let v1080 : BitVec 32 := Scalar.muli v8 c1_i32_935
  let v1081 : BitVec 32 := Scalar.addi v1079 v1080
  v1081.toNat
def k0_dev54 (d0 : Dev nD) : Nat :=
  let c0_i32_953 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_952 : BitVec 32 := 8#32
  let v1098 : BitVec 32 := Scalar.muli v19 c8_i32_952
  let v1099 : BitVec 32 := Scalar.addi c0_i32_953 v1098
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_954 : BitVec 32 := 4#32
  let v1100 : BitVec 32 := Scalar.muli v5 c4_i32_954
  let v1101 : BitVec 32 := Scalar.addi v1099 v1100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_955 : BitVec 32 := 1#32
  let v1102 : BitVec 32 := Scalar.muli v8 c1_i32_955
  let v1103 : BitVec 32 := Scalar.addi v1101 v1102
  v1103.toNat
def k0_dev55 (d0 : Dev nD) : Nat :=
  let c0_i32_973 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_972 : BitVec 32 := 8#32
  let v1120 : BitVec 32 := Scalar.muli v2 c8_i32_972
  let v1121 : BitVec 32 := Scalar.addi c0_i32_973 v1120
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_974 : BitVec 32 := 4#32
  let v1122 : BitVec 32 := Scalar.muli v20 c4_i32_974
  let v1123 : BitVec 32 := Scalar.addi v1121 v1122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_975 : BitVec 32 := 1#32
  let v1124 : BitVec 32 := Scalar.muli v8 c1_i32_975
  let v1125 : BitVec 32 := Scalar.addi v1123 v1124
  v1125.toNat
def k0_dev56 (d0 : Dev nD) : Nat :=
  let c0_i32_993 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_992 : BitVec 32 := 8#32
  let v1142 : BitVec 32 := Scalar.muli v19 c8_i32_992
  let v1143 : BitVec 32 := Scalar.addi c0_i32_993 v1142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_994 : BitVec 32 := 4#32
  let v1144 : BitVec 32 := Scalar.muli v5 c4_i32_994
  let v1145 : BitVec 32 := Scalar.addi v1143 v1144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_995 : BitVec 32 := 1#32
  let v1146 : BitVec 32 := Scalar.muli v8 c1_i32_995
  let v1147 : BitVec 32 := Scalar.addi v1145 v1146
  v1147.toNat
def k0_dev57 (d0 : Dev nD) : Nat :=
  let c0_i32_1013 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1012 : BitVec 32 := 8#32
  let v1164 : BitVec 32 := Scalar.muli v2 c8_i32_1012
  let v1165 : BitVec 32 := Scalar.addi c0_i32_1013 v1164
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1014 : BitVec 32 := 4#32
  let v1166 : BitVec 32 := Scalar.muli v20 c4_i32_1014
  let v1167 : BitVec 32 := Scalar.addi v1165 v1166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1015 : BitVec 32 := 1#32
  let v1168 : BitVec 32 := Scalar.muli v8 c1_i32_1015
  let v1169 : BitVec 32 := Scalar.addi v1167 v1168
  v1169.toNat
def k0_dev58 (d0 : Dev nD) : Nat :=
  let c0_i32_1033 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_1032 : BitVec 32 := 8#32
  let v1186 : BitVec 32 := Scalar.muli v19 c8_i32_1032
  let v1187 : BitVec 32 := Scalar.addi c0_i32_1033 v1186
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1034 : BitVec 32 := 4#32
  let v1188 : BitVec 32 := Scalar.muli v5 c4_i32_1034
  let v1189 : BitVec 32 := Scalar.addi v1187 v1188
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1035 : BitVec 32 := 1#32
  let v1190 : BitVec 32 := Scalar.muli v8 c1_i32_1035
  let v1191 : BitVec 32 := Scalar.addi v1189 v1190
  v1191.toNat
def k0_dev59 (d0 : Dev nD) : Nat :=
  let c0_i32_1053 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1052 : BitVec 32 := 8#32
  let v1208 : BitVec 32 := Scalar.muli v2 c8_i32_1052
  let v1209 : BitVec 32 := Scalar.addi c0_i32_1053 v1208
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1054 : BitVec 32 := 4#32
  let v1210 : BitVec 32 := Scalar.muli v20 c4_i32_1054
  let v1211 : BitVec 32 := Scalar.addi v1209 v1210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1055 : BitVec 32 := 1#32
  let v1212 : BitVec 32 := Scalar.muli v8 c1_i32_1055
  let v1213 : BitVec 32 := Scalar.addi v1211 v1212
  v1213.toNat
def k0_dev60 (d0 : Dev nD) : Nat :=
  let c0_i32_1073 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_1072 : BitVec 32 := 8#32
  let v1230 : BitVec 32 := Scalar.muli v19 c8_i32_1072
  let v1231 : BitVec 32 := Scalar.addi c0_i32_1073 v1230
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1074 : BitVec 32 := 4#32
  let v1232 : BitVec 32 := Scalar.muli v5 c4_i32_1074
  let v1233 : BitVec 32 := Scalar.addi v1231 v1232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1075 : BitVec 32 := 1#32
  let v1234 : BitVec 32 := Scalar.muli v8 c1_i32_1075
  let v1235 : BitVec 32 := Scalar.addi v1233 v1234
  v1235.toNat
def k0_dev61 (d0 : Dev nD) : Nat :=
  let c0_i32_1093 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1092 : BitVec 32 := 8#32
  let v1252 : BitVec 32 := Scalar.muli v2 c8_i32_1092
  let v1253 : BitVec 32 := Scalar.addi c0_i32_1093 v1252
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1094 : BitVec 32 := 4#32
  let v1254 : BitVec 32 := Scalar.muli v20 c4_i32_1094
  let v1255 : BitVec 32 := Scalar.addi v1253 v1254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1095 : BitVec 32 := 1#32
  let v1256 : BitVec 32 := Scalar.muli v8 c1_i32_1095
  let v1257 : BitVec 32 := Scalar.addi v1255 v1256
  v1257.toNat
def k0_dev62 (d0 : Dev nD) : Nat :=
  let c0_i32_1113 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_1112 : BitVec 32 := 8#32
  let v1274 : BitVec 32 := Scalar.muli v19 c8_i32_1112
  let v1275 : BitVec 32 := Scalar.addi c0_i32_1113 v1274
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1114 : BitVec 32 := 4#32
  let v1276 : BitVec 32 := Scalar.muli v5 c4_i32_1114
  let v1277 : BitVec 32 := Scalar.addi v1275 v1276
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1115 : BitVec 32 := 1#32
  let v1278 : BitVec 32 := Scalar.muli v8 c1_i32_1115
  let v1279 : BitVec 32 := Scalar.addi v1277 v1278
  v1279.toNat
def k0_dev63 (d0 : Dev nD) : Nat :=
  let c0_i32_1133 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1132 : BitVec 32 := 8#32
  let v1296 : BitVec 32 := Scalar.muli v2 c8_i32_1132
  let v1297 : BitVec 32 := Scalar.addi c0_i32_1133 v1296
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1134 : BitVec 32 := 4#32
  let v1298 : BitVec 32 := Scalar.muli v20 c4_i32_1134
  let v1299 : BitVec 32 := Scalar.addi v1297 v1298
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1135 : BitVec 32 := 1#32
  let v1300 : BitVec 32 := Scalar.muli v8 c1_i32_1135
  let v1301 : BitVec 32 := Scalar.addi v1299 v1300
  v1301.toNat
def k0_dev64 (d0 : Dev nD) : Nat :=
  let c0_i32_1153 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_1152 : BitVec 32 := 8#32
  let v1318 : BitVec 32 := Scalar.muli v19 c8_i32_1152
  let v1319 : BitVec 32 := Scalar.addi c0_i32_1153 v1318
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1154 : BitVec 32 := 4#32
  let v1320 : BitVec 32 := Scalar.muli v5 c4_i32_1154
  let v1321 : BitVec 32 := Scalar.addi v1319 v1320
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1155 : BitVec 32 := 1#32
  let v1322 : BitVec 32 := Scalar.muli v8 c1_i32_1155
  let v1323 : BitVec 32 := Scalar.addi v1321 v1322
  v1323.toNat
def k0_dev65 (d0 : Dev nD) : Nat :=
  let c0_i32_1173 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1172 : BitVec 32 := 8#32
  let v1340 : BitVec 32 := Scalar.muli v2 c8_i32_1172
  let v1341 : BitVec 32 := Scalar.addi c0_i32_1173 v1340
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1174 : BitVec 32 := 4#32
  let v1342 : BitVec 32 := Scalar.muli v20 c4_i32_1174
  let v1343 : BitVec 32 := Scalar.addi v1341 v1342
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1175 : BitVec 32 := 1#32
  let v1344 : BitVec 32 := Scalar.muli v8 c1_i32_1175
  let v1345 : BitVec 32 := Scalar.addi v1343 v1344
  v1345.toNat
def k0_dev66 (d0 : Dev nD) : Nat :=
  let c0_i32_1193 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_1192 : BitVec 32 := 8#32
  let v1362 : BitVec 32 := Scalar.muli v19 c8_i32_1192
  let v1363 : BitVec 32 := Scalar.addi c0_i32_1193 v1362
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1194 : BitVec 32 := 4#32
  let v1364 : BitVec 32 := Scalar.muli v5 c4_i32_1194
  let v1365 : BitVec 32 := Scalar.addi v1363 v1364
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1195 : BitVec 32 := 1#32
  let v1366 : BitVec 32 := Scalar.muli v8 c1_i32_1195
  let v1367 : BitVec 32 := Scalar.addi v1365 v1366
  v1367.toNat
def k0_dev67 (d0 : Dev nD) : Nat :=
  let c0_i32_1213 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1212 : BitVec 32 := 8#32
  let v1384 : BitVec 32 := Scalar.muli v2 c8_i32_1212
  let v1385 : BitVec 32 := Scalar.addi c0_i32_1213 v1384
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1214 : BitVec 32 := 4#32
  let v1386 : BitVec 32 := Scalar.muli v20 c4_i32_1214
  let v1387 : BitVec 32 := Scalar.addi v1385 v1386
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1215 : BitVec 32 := 1#32
  let v1388 : BitVec 32 := Scalar.muli v8 c1_i32_1215
  let v1389 : BitVec 32 := Scalar.addi v1387 v1388
  v1389.toNat
abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x2048x1024 : Shape := ⟨3, ![4, 2048, 1024]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Loops.lean ====
/- The kernel's body as five loops over the sixteen chunks. The printed body is one straight line of two hundred
   operations; here it is written with a loop for each phase, and `body_loops` says that the two are the same program.
   Everything later is proved of a loop's body at a symbolic chunk. -/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Shards

open Cert.KernelIdeal Cert.KernelIdeal.Gen
open Idealize.ShloMosaic Idealize.SL.Sem

variable {F : FTy → Type} [FloatOps F]

/-- A program of the kernel's core. -/
abbrev CoreProg (F : FTy → Type) (α : Type) : Type _ := Prog (TpuEff nD τ sig (Elt F) Λ₀ .tc) α

/-- One program for each chunk of a list, in the list's order. -/
def forEach (body : Fin 16 → CoreProg F PUnit) : List (Fin 16) → CoreProg F PUnit
  | [] => pure ⟨⟩
  | j :: l => body j >>= fun _ => forEach body l

/-- The sixteen chunks of a quarter, in order. -/
def chunks : List (Fin 16) := [0, 1, 2, 3, 4, 5, 6, 7, 8, 9, 10, 11, 12, 13, 14, 15]

/-- An even chunk goes through the y neighbour first and then along x; an odd chunk the other way. -/
def isEven (j : Fin 16) : Bool := j.val % 2 == 0

theorem inb_sem (j : Fin 16) : ∀ a, (![j.val] : Fin 1 → Nat) a + S1.size a ≤ S16.size a := by revert j; decide

/-- Semaphore `j` of an array of sixteen. -/
def semAt (s : DmaSems sig S16) (j : Fin 16) : DmaSem sig :=
  ((s.slice (Rect.unit (s := S16) ![j.val] S1.size (inb_sem j))).squeeze S_ squeezes_S1_S_).sem

/-- The thirty-two rows that start at an offset. -/
abbrev rowsAt (M : Memref sig .tc .vmem S1x2048x1024 .f32) (o : Fin 3 → Nat)
    (h : ∀ a, o a + S1x32x1024.size a ≤ S1x2048x1024.size a) : Memref sig .tc .vmem S1x32x1024 .f32 :=
  M.slice (Rect.unit (s := S1x2048x1024) o S1x32x1024.size h) (fun _ => rfl)

/-- Chunk `j` of the device's own quarter. -/
def ownRows (M : Memref sig .tc .vmem S1x2048x1024 .f32) (d : Dev nD) (j : Fin 16) : Memref sig .tc .vmem S1x32x1024 .f32 :=
  rowsAt M (k0_off3 d (BitVec.ofNat 32 (32 * j.val))) (k0_off3_inb d j)

/-- Half of a chunk's number, as the offsets of the even and the odd chunks are indexed. -/
def halfOf (j : Fin 16) : Fin 8 := ⟨j.val / 2, by have := j.isLt; omega⟩

/-- Chunk `j`, when it is even, of the y neighbour's quarter. -/
def evenRows (M : Memref sig .tc .vmem S1x2048x1024 .f32) (d : Dev nD) (j : Fin 16) : Memref sig .tc .vmem S1x32x1024 .f32 :=
  rowsAt M (k0_off4 d (BitVec.ofNat 32 (64 * (halfOf j).val))) (k0_off4_inb d (halfOf j))

/-- Chunk `j`, when it is odd, of the x neighbour's quarter. -/
def oddRows (M : Memref sig .tc .vmem S1x2048x1024 .f32) (d : Dev nD) (j : Fin 16) : Memref sig .tc .vmem S1x32x1024 .f32 :=
  rowsAt M (k0_off5 d (BitVec.ofNat 32 (32 + 64 * (halfOf j).val))) (k0_off5_inb d (halfOf j))

/-- Start a copy of `src` to `dst` on device `n`. -/
def copyTo (n : Dev nD) (src dst : Memref sig .tc .vmem S1x32x1024 .f32) (ss rs : DmaSem sig) : CoreProg F PUnit :=
  Prog.lift (.enqueueDma src (.remote (Dev.tc n) dst (.dma ss)) (.dma rs) (View.wordExact_bits rfl) (View.wordExact_bits rfl)
    ⟨⟨rfl, Or.inl rfl⟩, trivial⟩)

/-- Wait until a copy of `dst`'s size has arrived on a semaphore. -/
def await (s : DmaSem sig) (src dst : Memref sig .tc .vmem S1x32x1024 .f32) : CoreProg F PUnit :=
  Prog.lift (.waitDma2 s src dst (View.wordExact_bits rfl) (View.wordExact_bits rfl))

section Phases

variable (arg1 arg2 : Memref sig .tc .vmem S1x2048x1024 .f32)
  (arg3 arg4 arg5 arg6 arg7 arg8 arg9 arg10 : DmaSems sig S16) (d : Dev nD)

/-- Phase A: chunk `j` of the device's quarter of the input goes to the device its slab is sent to. -/
def phaseA (v : BitVec 32) (hv : k0_chk2 d v) (j : Fin 16) : CoreProg F PUnit :=
  copyTo ⟨k0_dev4 d v, k0_dev4_lt d v hv⟩ (ownRows arg1 d j) (ownRows arg2 d j) (semAt arg3 j) (semAt arg4 j)

/-- Phase B: chunk `j` of the quarter has arrived, and goes on to both neighbours in the plane. -/
def phaseB (j : Fin 16) : CoreProg F PUnit := do
  await (semAt arg4 j) (ownRows arg1 d j) (ownRows arg2 d j)
  copyTo ⟨k0_dev20 d, k0_dev20_lt d⟩ (ownRows arg2 d j) (ownRows arg2 d j) (semAt arg5 j) (semAt arg6 j)
  copyTo ⟨k0_dev21 d, k0_dev21_lt d⟩ (ownRows arg2 d j) (ownRows arg2 d j) (semAt arg7 j) (semAt arg8 j)

/-- Phase C: a neighbour's chunk `j` has arrived, and goes on to the other neighbour. -/
def phaseC (j : Fin 16) : CoreProg F PUnit :=
  match isEven j with
  | true => do
    await (semAt arg8 j) (ownRows arg2 d j) (ownRows arg2 d j)
    copyTo ⟨k0_dev52 d, k0_dev52_lt d⟩ (evenRows arg2 d j) (evenRows arg2 d j) (semAt arg9 j) (semAt arg10 j)
  | false => do
    await (semAt arg6 j) (ownRows arg2 d j) (ownRows arg2 d j)
    copyTo ⟨k0_dev53 d, k0_dev53_lt d⟩ (oddRows arg2 d j) (oddRows arg2 d j) (semAt arg9 j) (semAt arg10 j)

/-- Phase D: the other neighbour's chunk `j` and the diagonal one arrive. -/
def phaseD (j : Fin 16) : CoreProg F PUnit :=
  match isEven j with
  | true => do
    await (semAt arg6 j) (ownRows arg2 d j) (ownRows arg2 d j)
    await (semAt arg10 j) (evenRows arg2 d j) (evenRows arg2 d j)
  | false => do
    await (semAt arg8 j) (ownRows arg2 d j) (ownRows arg2 d j)
    await (semAt arg10 j) (oddRows arg2 d j) (oddRows arg2 d j)

/-- Phase E: the four copies of chunk `j` have left. -/
def phaseE (j : Fin 16) : CoreProg F PUnit := do
  await (semAt arg3 j) (ownRows arg2 d j) (ownRows arg1 d j)
  await (semAt arg5 j) (ownRows arg2 d j) (ownRows arg2 d j)
  await (semAt arg7 j) (ownRows arg2 d j) (ownRows arg2 d j)
  match isEven j with
  | true => await (semAt arg9 j) (evenRows arg2 d j) (evenRows arg2 d j)
  | false => await (semAt arg9 j) (oddRows arg2 d j) (oddRows arg2 d j)

end Phases

/-- What follows the reading of the permutation: the three signals, then the five phases. -/
def afterTable (arg1 arg2 : Memref sig .tc .vmem S1x2048x1024 .f32)
    (arg3 arg4 arg5 arg6 arg7 arg8 arg9 arg10 : DmaSems sig S16) (arg11 : Sems sig S_) (d : Dev nD)
    (v v0 v1 v2 v3 : BitVec 32) (hv : k0_chk2 d v) (hs : k0_chk1 d v0 v1 v2 v3) : CoreProg F PUnit := do
  semSignalWord (⟨k0_dev1 d v0 v1 v2 v3, k0_dev1_lt d v0 v1 v2 v3 hs⟩ : Dev nD) (SemArray.scalar (sig.barrier 0 rfl) : Sems sig S_).sem 1#32
  semSignalWord (⟨k0_dev2 d, k0_dev2_lt d⟩ : Dev nD) arg11.sem 1#32
  semSignalWord (⟨k0_dev3 d, k0_dev3_lt d⟩ : Dev nD) arg11.sem 1#32
  semWaitWord (SemArray.scalar (sig.barrier 0 rfl) : Sems sig S_).sem 1#32
  forEach (phaseA arg1 arg2 arg3 arg4 d v hv) chunks
  semWaitWord arg11.sem 2#32
  forEach (phaseB arg1 arg2 arg4 arg5 arg6 arg7 arg8 d) chunks
  forEach (phaseC arg2 arg6 arg8 arg9 arg10 d) chunks
  forEach (phaseD arg2 arg6 arg8 arg10 d) chunks
  forEach (phaseE arg1 arg2 arg3 arg5 arg7 arg9 d) chunks

/-- The whole body: the permutation's words are read, each reading followed by the check of what is computed from it. -/
def loopBody (arg0 : Memref sig .tc .smem S4 .i32) (arg1 arg2 : Memref sig .tc .vmem S1x2048x1024 .f32)
    (arg3 arg4 arg5 arg6 arg7 arg8 arg9 arg10 : DmaSems sig S16) (arg11 : Sems sig S_) : CoreProg F PUnit := do
  let d : Dev nD ← Prog.lift .deviceId
  let v : Elt F .i32 ← smemLoad arg0 (Rect.unit (s := S4) (k0_off1 d) S1.size (k0_off1_inb d)) numel1_S1 rfl
  let hv ← Prog.lift (TpuEff.assume (k0_chk2 d v) (k0_chk2.dec d v))
  let v0 : Elt F .i32 ← smemLoad arg0 (Rect.unit (s := S4) ![0] S1.size inb_S4_S1_0) numel1_S1 rfl
  let v1 : Elt F .i32 ← smemLoad arg0 (Rect.unit (s := S4) ![1] S1.size inb_S4_S1_1) numel1_S1 rfl
  let v2 : Elt F .i32 ← smemLoad arg0 (Rect.unit (s := S4) ![2] S1.size inb_S4_S1_2) numel1_S1 rfl
  let v3 : Elt F .i32 ← smemLoad arg0 (Rect.unit (s := S4) ![3] S1.size inb_S4_S1_3) numel1_S1 rfl
  let hs ← Prog.lift (TpuEff.assume (k0_chk1 d v0 v1 v2 v3) (k0_chk1.dec d v0 v1 v2 v3))
  afterTable arg1 arg2 arg3 arg4 arg5 arg6 arg7 arg8 arg9 arg10 arg11 d v v0 v1 v2 v3 hv.down hs.down

/-- The printed body is the five loops. -/
theorem body_loops (arg0 : Memref sig .tc .smem S4 .i32) (h0 : arg0.IsWhole) (arg1 : Memref sig .tc .vmem S1x2048x1024 .f32)
    (h1 : arg1.IsWhole) (arg2 : Memref sig .tc .vmem S1x2048x1024 .f32) (h2 : arg2.IsWhole)
    (arg3 arg4 arg5 arg6 arg7 arg8 arg9 arg10 : DmaSems sig S16) (arg11 : Sems sig S_) :
    cc0_body (F := F) arg0 h0 arg1 h1 arg2 h2 arg3 arg4 arg5 arg6 arg7 arg8 arg9 arg10 arg11
      = loopBody arg0 arg1 arg2 arg3 arg4 arg5 arg6 arg7 arg8 arg9 arg10 arg11 := by
  chain_rfl

end Cert.Shards

end
-- ==== Proof.Mesh.lean ====
/- The mesh of sixteen devices as four slabs by four quarters: device `(x, y, z)` of the mesh is in slab `z` and owns
   quarter `2x + y` of every slab's rows. The devices the kernel computes, in these terms. -/
module

public import proofs.«01_k».proof.Proof.Loops

@[expose] public section

namespace Cert.Shards

open Cert.KernelIdeal Cert.KernelIdeal.Gen
open Idealize.ShloMosaic Idealize.SL.Sem

/-- The device of a quarter and a slab. -/
def devAt (k z : Fin 4) : Dev nD := ⟨4 * k.val + z.val, by show _ < 16; omega⟩
/-- The quarter a device owns. -/
def quarter (c : Dev nD) : Fin 4 := ⟨c.val / 4, by have : c.val < 16 := c.isLt; omega⟩
/-- The slab a device is in. -/
def slab (c : Dev nD) : Fin 4 := ⟨c.val % 4, by omega⟩

@[simp] theorem quarter_devAt (k z : Fin 4) : quarter (devAt k z) = k := Fin.ext (by show (4 * k.val + z.val) / 4 = k.val; omega)
@[simp] theorem slab_devAt (k z : Fin 4) : slab (devAt k z) = z := Fin.ext (by show (4 * k.val + z.val) % 4 = z.val; omega)
@[simp] theorem devAt_self (c : Dev nD) : devAt (quarter c) (slab c) = c :=
  Fin.ext (by show 4 * (c.val / 4) + c.val % 4 = c.val; omega)

/-- The quarter of the neighbour along x (`false`) or along y (`true`). -/
def flip (b : Bool) (k : Fin 4) : Fin 4 := match b with
  | false => ![2, 3, 0, 1] k
  | true => ![1, 0, 3, 2] k

@[simp] theorem flip_flip (b : Bool) (k : Fin 4) : flip b (flip b k) = k := by revert b k; decide
/-- Crossing to one neighbour and then to the other reaches the diagonal quarter, whichever comes first. -/
theorem flip_cross (b : Bool) (k : Fin 4) : flip (!b) (flip b k) = flip b (flip (!b) k) := by revert b k; decide

/-- The neighbour of a device in its slab, along x or along y. -/
def nb (b : Bool) (c : Dev nD) : Dev nD := devAt (flip b (quarter c)) (slab c)
@[simp] theorem quarter_nb (b : Bool) (c : Dev nD) : quarter (nb b c) = flip b (quarter c) := quarter_devAt _ _
@[simp] theorem slab_nb (b : Bool) (c : Dev nD) : slab (nb b c) = slab c := slab_devAt _ _
@[simp] theorem nb_nb (b : Bool) (c : Dev nD) : nb b (nb b c) = c := by
  unfold nb; rw [quarter_devAt, slab_devAt, flip_flip, devAt_self]

/-- The same quarter's device in another slab. -/
def toSlab (f : Fin 4 → Fin 4) (c : Dev nD) : Dev nD := devAt (quarter c) (f (slab c))
@[simp] theorem quarter_toSlab (f : Fin 4 → Fin 4) (c : Dev nD) : quarter (toSlab f c) = quarter c := quarter_devAt _ _
@[simp] theorem slab_toSlab (f : Fin 4 → Fin 4) (c : Dev nD) : slab (toSlab f c) = f (slab c) := slab_devAt _ _

variable (σ : Equiv.Perm (Fin 4))

/-- The device that a device's slab is sent to, and the one whose slab it gets. -/
abbrev dst (c : Dev nD) : Dev nD := toSlab σ c
abbrev src (c : Dev nD) : Dev nD := toSlab σ.symm c
@[simp] theorem src_dst (c : Dev nD) : src σ (dst σ c) = c := by simp [toSlab]
@[simp] theorem dst_src (c : Dev nD) : dst σ (src σ c) = c := by simp [toSlab]

/-- A word of the permutation's table. -/
abbrev word (i : Fin 4) : BitVec 32 := BitVec.ofNat 32 i.val

/-! ## The devices that the kernel computes -/

theorem dev2_nb (c : Dev nD) : (⟨k0_dev2 c, k0_dev2_lt c⟩ : Dev nD) = nb false c := by revert c; decide +kernel
theorem dev3_nb (c : Dev nD) : (⟨k0_dev3 c, k0_dev3_lt c⟩ : Dev nD) = nb true c := by revert c; decide +kernel
theorem dev20_nb (c : Dev nD) : (⟨k0_dev20 c, k0_dev20_lt c⟩ : Dev nD) = nb false c := by revert c; decide +kernel
theorem dev21_nb (c : Dev nD) : (⟨k0_dev21 c, k0_dev21_lt c⟩ : Dev nD) = nb true c := by revert c; decide +kernel
theorem dev52_nb (c : Dev nD) : (⟨k0_dev52 c, k0_dev52_lt c⟩ : Dev nD) = nb false c := by revert c; decide +kernel
theorem dev53_nb (c : Dev nD) : (⟨k0_dev53 c, k0_dev53_lt c⟩ : Dev nD) = nb true c := by revert c; decide +kernel

/-- A table's word is a device's slab, so that every check of it holds. -/
theorem chk2_word (c : Dev nD) (i : Fin 4) : k0_chk2 c (word i) := by revert c i; decide +kernel
theorem dev4_toSlab (c : Dev nD) (i : Fin 4) (h : k0_chk2 c (word i)) :
    (⟨k0_dev4 c (word i), k0_dev4_lt c (word i) h⟩ : Dev nD) = devAt (quarter c) i := by
  apply Fin.ext; show k0_dev4 c (word i) = (devAt (quarter c) i).val; clear h; revert c i; decide +kernel

/-- The search for the slab that is sent here, through four words: the place where the slab's number stands. -/
theorem dev1_search (c : Dev nD) (a b e f : Fin 4) (hb : b ≠ a) (he : e ≠ a ∧ e ≠ b) (hf : f ≠ a ∧ f ≠ b ∧ f ≠ e) :
    k0_dev1 c (word a) (word b) (word e) (word f)
      = 4 * (quarter c).val + (if slab c = a then 0 else if slab c = b then 1 else if slab c = e then 2 else 3) := by
  revert c a b e f; decide +kernel

theorem dev1_src (c : Dev nD) (h : k0_chk1 c (word (σ 0)) (word (σ 1)) (word (σ 2)) (word (σ 3))) :
    (⟨k0_dev1 c (word (σ 0)) (word (σ 1)) (word (σ 2)) (word (σ 3)), k0_dev1_lt c _ _ _ _ h⟩ : Dev nD) = src σ c := by
  apply Fin.ext
  show k0_dev1 c _ _ _ _ = 4 * (quarter c).val + (σ.symm (slab c)).val
  have ne : ∀ i j : Fin 4, i ≠ j → σ i ≠ σ j := fun i j hij e => hij (σ.injective e)
  rw [dev1_search c _ _ _ _ (ne _ _ (by decide)) ⟨ne _ _ (by decide), ne _ _ (by decide)⟩
    ⟨ne _ _ (by decide), ne _ _ (by decide), ne _ _ (by decide)⟩]
  generalize hz : σ.symm (slab c) = i
  have hσ : σ i = slab c := by rw [← hz, Equiv.apply_symm_apply]
  rw [← hσ]
  simp only [EmbeddingLike.apply_eq_iff_eq, add_right_inj]
  clear hz hσ ne h; revert i; decide

end Cert.Shards
-- ==== Proof.Sched.lean ====
/- The protocol: the contents every copy delivers, the semaphores as cells of one table, and for each cell who pays it, how
   much, and what the payment hands over.

   Device `c` of quarter `k` gets chunk `(k, j)` of its slab's rows from `src c` (the hop). It sends the chunk on to both
   neighbours in its slab (the fans), and a chunk that a neighbour sent it on to the other neighbour (the cross): an even
   chunk of the y neighbour's quarter along x, an odd chunk of the x neighbour's quarter along y. -/
module

public import proofs.«01_k».proof.Proof.Mesh
public import Idealize.ShloMosaic.Lib.Pipeline.Launch
public import Idealize.ShloMosaic.Lib.Pipeline.Kit
public import Idealize.ShloMosaic.Lib.Tactic

@[expose] public section

noncomputable section

namespace Cert.Shards

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds and the protocol's, whose duties are named by a direction -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The rows -/

/-- Where chunk `j` of quarter `k` starts. -/
abbrev off (k : Fin 4) (j : Fin 16) : Fin 3 → ℕ := ![0, 512 * k.val + 32 * j.val, 0]

theorem off_inb (k : Fin 4) (j : Fin 16) : ∀ a, off k j a + S1x32x1024.size a ≤ S1x2048x1024.size a := by
  intro a
  have := k.isLt; have := j.isLt
  fin_cases a
  · show 0 + 1 ≤ 1; omega
  · show 512 * k.val + 32 * j.val + 32 ≤ 2048; omega
  · show 0 + 1024 ≤ 1024; omega

/-- Chunk `j` of quarter `k` as elements of a slab. -/
def rowSet (k : Fin 4) (j : Fin 16) : Finset S1x2048x1024.Idx :=
  (Rect.unit (s := S1x2048x1024) (off k j) S1x32x1024.size (off_inb k j)).set

/-- A slab's element is in chunk `(k, j)` exactly if its row is. -/
theorem mem_rowSet {k : Fin 4} {j : Fin 16} {i : S1x2048x1024.Idx} :
    i ∈ rowSet k j ↔ 512 * k.val + 32 * j.val ≤ (i 1).val ∧ (i 1).val < 512 * k.val + 32 * j.val + 32 := by
  unfold rowSet
  rw [Rect.mem_set_unit]
  have h0 : (i 0).val < 1 := (i 0).isLt
  have h2 : (i 2).val < 1024 := (i 2).isLt
  constructor
  · intro h; exact h 1
  · intro h a
    fin_cases a
    · show 0 ≤ (i 0).val ∧ (i 0).val < 0 + 1; omega
    · exact h
    · show 0 ≤ (i 2).val ∧ (i 2).val < 0 + 1024; omega

/-- The quarter an element's row is in. -/
def rowQuarter (i : S1x2048x1024.Idx) : Fin 4 := ⟨(i 1).val / 512, by have : (i 1).val < 2048 := (i 1).isLt; omega⟩

theorem rowQuarter_of_mem {k : Fin 4} {j : Fin 16} {i : S1x2048x1024.Idx} (h : i ∈ rowSet k j) : rowQuarter i = k := by
  have h := mem_rowSet.mp h
  have := j.isLt
  exact Fin.ext (by show (i 1).val / 512 = k.val; omega)

/-- Different chunks have no element in common. -/
theorem rowSet_disjoint (a b : Fin 4 × Fin 16) (h : a ≠ b) : Disjoint (rowSet a.1 a.2) (rowSet b.1 b.2) := by
  rw [Finset.disjoint_left]
  intro i ha hb
  have h1 := mem_rowSet.mp ha; have h2 := mem_rowSet.mp hb
  have := a.2.isLt; have := b.2.isLt
  exact h (Prod.ext (Fin.ext (by omega)) (Fin.ext (by omega)))

/-- Together the chunks are the slab. -/
theorem rowSet_cover : (Finset.univ : Finset (Fin 4 × Fin 16)).biUnion (fun a => rowSet a.1 a.2) = Finset.univ := by
  ext i
  simp only [Finset.mem_biUnion, Finset.mem_univ, true_and, iff_true]
  have hi : (i 1).val < 2048 := (i 1).isLt
  refine ⟨(⟨(i 1).val / 512, by omega⟩, ⟨(i 1).val % 512 / 32, by omega⟩), mem_rowSet.mpr ?_⟩
  show 512 * ((i 1).val / 512) + 32 * ((i 1).val % 512 / 32) ≤ (i 1).val
    ∧ (i 1).val < 512 * ((i 1).val / 512) + 32 * ((i 1).val % 512 / 32) + 32
  omega

/-! ## The memrefs of the chunks -/

abbrev xM : Memref sig .tc .vmem S1x2048x1024 .f32 := Memref.whole cc0_stg1_0
abbrev oM : Memref sig .tc .vmem S1x2048x1024 .f32 := Memref.whole cc0_stg2_0

/-- Chunk `(k, j)` of a slab. -/
abbrev chunk (M : Memref sig .tc .vmem S1x2048x1024 .f32) (k : Fin 4) (j : Fin 16) : Memref sig .tc .vmem S1x32x1024 .f32 :=
  rowsAt M (off k j) (off_inb k j)

theorem rowsAt_congr (M : Memref sig .tc .vmem S1x2048x1024 .f32) {o o' : Fin 3 → ℕ} (e : o = o') (h h') :
    rowsAt M o h = rowsAt M o' h' := by subst e; rfl

theorem ownRows_eq (M : Memref sig .tc .vmem S1x2048x1024 .f32) (d : Dev nD) (j : Fin 16) : ownRows M d j = chunk M (quarter d) j := by
  refine rowsAt_congr M ?_ _ _
  rw [k0_off3_eq]
  have hd : d.val < 16 := d.isLt
  have : 1024 * (d.val / 8) + 512 * (d.val / 4 % 2) + 32 * j.val = 512 * (d.val / 4) + 32 * j.val := by omega
  rw [this]; rfl

theorem evenRows_off : ∀ (d : Dev nD) (j : Fin 16), isEven j = true →
    ∀ a, k0_off4 d (BitVec.ofNat 32 (64 * (halfOf j).val)) a = off (flip true (quarter d)) j a := by decide +kernel
theorem oddRows_off : ∀ (d : Dev nD) (j : Fin 16), isEven j = false →
    ∀ a, k0_off5 d (BitVec.ofNat 32 (32 + 64 * (halfOf j).val)) a = off (flip false (quarter d)) j a := by decide +kernel

theorem evenRows_eq (M : Memref sig .tc .vmem S1x2048x1024 .f32) (d : Dev nD) (j : Fin 16) (h : isEven j = true) :
    evenRows M d j = chunk M (flip (isEven j) (quarter d)) j := by
  rw [h]; exact rowsAt_congr M (funext (evenRows_off d j h)) _ _
theorem oddRows_eq (M : Memref sig .tc .vmem S1x2048x1024 .f32) (d : Dev nD) (j : Fin 16) (h : isEven j = false) :
    oddRows M d j = chunk M (flip (isEven j) (quarter d)) j := by
  rw [h]; exact rowsAt_congr M (funext (oddRows_off d j h)) _ _

theorem chunk_x_set (k : Fin 4) (j : Fin 16) : (chunk xM k j).view.set = rowSet k j := View.set_slice_whole cc0_stg1_0 _
theorem chunk_o_set (k : Fin 4) (j : Fin 16) : (chunk oM k j).view.set = rowSet k j := View.set_slice_whole cc0_stg2_0 _

/-- A chunk copied from the input to the same rows of the result is the input's rows there. -/
theorem copied_x (k : Fin 4) (j : Fin 16) (fd : (cc0_stg2_0 : Ref sig .tc).ty.Contents (Elt F)) (fs : (cc0_stg1_0 : Ref sig .tc).ty.Contents (Elt F))
    (i : S1x2048x1024.Idx) (hi : i ∈ rowSet k j) :
    (chunk oM k j).view.write (Elt F) fd ((chunk xM k j).view.read (Elt F) fs) Finset.univ i = fs i := by
  obtain ⟨y, -, hy⟩ := Finset.mem_map.mp (show i ∈ (chunk oM k j).view.set by rw [chunk_o_set]; exact hi)
  subst hy
  exact View.write_emb_of_mem _ _ (Finset.mem_univ y)

/-- A chunk copied from one device's result to the same rows of another's is the first's rows there. -/
theorem copied_o (k : Fin 4) (j : Fin 16) (fd fs : (cc0_stg2_0 : Ref sig .tc).ty.Contents (Elt F))
    (i : S1x2048x1024.Idx) (hi : i ∈ rowSet k j) :
    (chunk oM k j).view.write (Elt F) fd ((chunk oM k j).view.read (Elt F) fs) Finset.univ i = fs i := by
  obtain ⟨y, -, hy⟩ := Finset.mem_map.mp (show i ∈ (chunk oM k j).view.set by rw [chunk_o_set]; exact hi)
  subst hy
  exact View.write_emb_of_mem _ _ (Finset.mem_univ y)

/-! ## Contents -/

variable (m : (ℓ : Loc nD τ sig) → Buf (Elt F) ℓ) (σ : Equiv.Perm (Fin 4))

/-- A device's slab of the input, as staged. -/
def slabOf (c : Dev nD) : (cc0_stg1_0 : Ref sig .tc).ty.Contents (Elt F) :=
  (win0_1.blk (0 : Fin 1)).view.read (Elt F) (m ((c : Thread nD τ).loc main_arg0))

/-- What a device's result holds in the end: each quarter of rows as the device of that quarter, in the slab that is sent
    here, has it. -/
def gathered (c : Dev nD) : (cc0_stg2_0 : Ref sig .tc).ty.Contents (Elt F) :=
  fun i => slabOf m (devAt (rowQuarter i) (σ.symm (slab c))) i

/-- The neighbours in a slab end with the same. -/
theorem gathered_nb (b : Bool) (c : Dev nD) : gathered m σ (nb b c) = gathered m σ c := by unfold gathered; rw [slab_nb]

/-- In a device's own quarter, what it sends is what its destination has to end with. -/
theorem gathered_dst (c : Dev nD) (j : Fin 16) (i : S1x2048x1024.Idx) (hi : i ∈ rowSet (quarter c) j) :
    gathered m σ (dst σ c) i = slabOf m c i := by
  unfold gathered
  rw [rowQuarter_of_mem hi, slab_toSlab, Equiv.symm_apply_apply, devAt_self]

/-- Chunk `(k, j)` of device `c`'s result at a share, holding `f` there. -/
def outPts (c : Dev nD) (k : Fin 4) (j : Fin 16) (q : PosShare TreeShare) (f : (cc0_stg2_0 : Ref sig .tc).ty.Contents (Elt F)) : sProp 𝕄 :=
  ((c : Thread nD τ).loc cc0_stg2_0) ↦[rowSet k j]{q} f
/-- Chunk `(k, j)` of device `c`'s input. -/
def inPts (c : Dev nD) (k : Fin 4) (j : Fin 16) : sProp 𝕄 :=
  ((c : Thread nD τ).loc cc0_stg1_0) ↦[rowSet k j]{fullShare} slabOf m c
/-- Chunk `(k, j)` of device `c`'s result, holding whatever. -/
def freeOut (c : Dev nD) (k : Fin 4) (j : Fin 16) : sProp 𝕄 := iprop(∃ f, outPts c k j fullShare f)
/-- Chunk `(k, j)` of device `c`'s result, delivered. -/
def fullOut (c : Dev nD) (k : Fin 4) (j : Fin 16) : sProp 𝕄 := outPts c k j fullShare (gathered m σ c)
/-- The two halves of a share, one for the fan in each direction. -/
def half (b : Bool) : PosShare TreeShare := if b then fullShare.right else fullShare.left
def halfOut (b : Bool) (c : Dev nD) (k : Fin 4) (j : Fin 16) : sProp 𝕄 := outPts c k j (half b) (gathered m σ c)

instance outPts_storable (c : Dev nD) (k j q f) : BI.Storable (upEmb : UEmb _ 𝕄) (outPts (F := F) c k j q f) := by unfold outPts; infer_instance
instance inPts_storable (c : Dev nD) (k j) : BI.Storable (upEmb : UEmb _ 𝕄) (inPts m c k j) := by unfold inPts; infer_instance
instance freeOut_storable (c : Dev nD) (k j) : BI.Storable (upEmb : UEmb _ 𝕄) (freeOut (F := F) c k j) := by unfold freeOut; infer_instance
instance fullOut_storable (c : Dev nD) (k j) : BI.Storable (upEmb : UEmb _ 𝕄) (fullOut m σ c k j) := by unfold fullOut; infer_instance
instance halfOut_storable (b : Bool) (c : Dev nD) (k j) : BI.Storable (upEmb : UEmb _ 𝕄) (halfOut m σ b c k j) := by unfold halfOut; infer_instance

/-- A delivered chunk is its two halves. -/
theorem fullOut_halves (c : Dev nD) (k : Fin 4) (j : Fin 16) :
    fullOut m σ c k j ⊣⊢ iprop(halfOut m σ false c k j ∗ halfOut m σ true c k j) := by
  unfold fullOut halfOut outPts half
  exact pointsTo_share (PosShare.mem_left_op_right fullShare)

/-! ## The cells -/

/-- The four kinds of copy: to the destination of the slab, to the neighbour along x or y, of a neighbour's chunk to the
    other neighbour. -/
inductive Lane
  | hop
  | fan (b : Bool)
  | cross
  deriving DecidableEq

def Lane.num : Lane → Fin 4
  | .hop => 0 | .fan false => 1 | .fan true => 2 | .cross => 3
def laneOf : Fin 4 → Lane := ![.hop, .fan false, .fan true, .cross]
theorem laneOf_num : ∀ l : Lane, laneOf l.num = l
  | .hop => rfl | .fan false => rfl | .fan true => rfl | .cross => rfl
theorem num_laneOf (n : Fin 4) : (laneOf n).num = n := by revert n; decide
def laneEquiv : Lane ≃ Fin 4 := ⟨Lane.num, laneOf, laneOf_num, num_laneOf⟩
instance : Fintype Lane := Fintype.ofEquiv (Fin 4) laneEquiv.symm

/-- The semaphores of the protocol: the barrier, the plane's, and for each lane and chunk the one that a copy leaves by and
    the one that it arrives on. -/
inductive Cell
  | bar
  | plane
  | leave (l : Lane) (j : Fin 16)
  | arrive (l : Lane) (j : Fin 16)
  deriving DecidableEq

/-- The cells as a sum of the two regular and the two families of transfer semaphores. -/
def cellEquiv : Cell ≃ Bool ⊕ (Lane × Fin 16) ⊕ (Lane × Fin 16) where
  toFun | .bar => .inl false | .plane => .inl true | .leave l j => .inr (.inl (l, j)) | .arrive l j => .inr (.inr (l, j))
  invFun | .inl false => .bar | .inl true => .plane | .inr (.inl p) => .leave p.1 p.2 | .inr (.inr p) => .arrive p.1 p.2
  left_inv | .bar => rfl | .plane => rfl | .leave _ _ => rfl | .arrive _ _ => rfl
  right_inv | .inl false => rfl | .inl true => rfl | .inr (.inl _) => rfl | .inr (.inr _) => rfl
instance : Fintype Cell := Fintype.ofEquiv _ cellEquiv.symm

/-- The barrier semaphore and the plane's. -/
abbrev barS : Sem sig := (SemArray.scalar (sig.barrier 0 rfl) : Sems sig S_).sem
abbrev planeS : Sem sig := (cc0_scratch8 : Sems sig S_).sem

/-- The transfer semaphores of a lane. -/
def leaveS (l : Lane) (j : Fin 16) : DmaSem sig := ⟨3 + 32 * l.num.val + j.val, by have := l.num.isLt; have := j.isLt; show _ < 131; omega⟩
def arriveS (l : Lane) (j : Fin 16) : DmaSem sig := ⟨19 + 32 * l.num.val + j.val, by have := l.num.isLt; have := j.isLt; show _ < 131; omega⟩

theorem semAt_leave_hop (j : Fin 16) : semAt cc0_scratch0 j = leaveS .hop j := by revert j; decide +kernel
theorem semAt_arrive_hop (j : Fin 16) : semAt cc0_scratch1 j = arriveS .hop j := by revert j; decide +kernel
theorem semAt_leave_x (j : Fin 16) : semAt cc0_scratch2 j = leaveS (.fan false) j := by revert j; decide +kernel
theorem semAt_arrive_x (j : Fin 16) : semAt cc0_scratch3 j = arriveS (.fan false) j := by revert j; decide +kernel
theorem semAt_leave_y (j : Fin 16) : semAt cc0_scratch4 j = leaveS (.fan true) j := by revert j; decide +kernel
theorem semAt_arrive_y (j : Fin 16) : semAt cc0_scratch5 j = arriveS (.fan true) j := by revert j; decide +kernel
theorem semAt_leave_cross (j : Fin 16) : semAt cc0_scratch6 j = leaveS .cross j := by revert j; decide +kernel
theorem semAt_arrive_cross (j : Fin 16) : semAt cc0_scratch7 j = arriveS .cross j := by revert j; decide +kernel

/-- The semaphore of a cell. -/
def semOf : Cell → SemLoc sig
  | .bar => .reg barS
  | .plane => .reg planeS
  | .leave l j => .dma (leaveS l j)
  | .arrive l j => .dma (arriveS l j)

/-- The cell of a semaphore, if it is one of the protocol's. -/
def cellAt : SemLoc sig → Option Cell
  | .reg s => if s = barS then some .bar else some .plane
  | .dma s =>
    if s.val < 3 then none
    else
      let l := laneOf ⟨(s.val - 3) / 32 % 4, Nat.mod_lt _ (by decide)⟩
      let j : Fin 16 := ⟨(s.val - 3) % 16, Nat.mod_lt _ (by decide)⟩
      if (s.val - 3) / 16 % 2 = 0 then some (.leave l j) else some (.arrive l j)

theorem cellAt_semOf (x : Cell) : cellAt (semOf x) = some x := by
  cases x with
  | bar => decide
  | plane => decide
  | leave l j =>
    have hl := l.num.isLt; have hj := j.isLt
    simp only [semOf, cellAt, leaveS]
    rw [if_neg (by omega), if_pos (by omega)]
    have e1 : (⟨(3 + 32 * l.num.val + j.val - 3) / 32 % 4, Nat.mod_lt _ (by decide)⟩ : Fin 4) = l.num := Fin.ext (by show _ / 32 % 4 = _; omega)
    have e2 : (⟨(3 + 32 * l.num.val + j.val - 3) % 16, Nat.mod_lt _ (by decide)⟩ : Fin 16) = j := Fin.ext (by show _ % 16 = _; omega)
    rw [e1, e2, laneOf_num]
  | arrive l j =>
    have hl := l.num.isLt; have hj := j.isLt
    simp only [semOf, cellAt, arriveS]
    rw [if_neg (by omega), if_neg (by omega)]
    have e1 : (⟨(19 + 32 * l.num.val + j.val - 3) / 32 % 4, Nat.mod_lt _ (by decide)⟩ : Fin 4) = l.num := Fin.ext (by show _ / 32 % 4 = _; omega)
    have e2 : (⟨(19 + 32 * l.num.val + j.val - 3) % 16, Nat.mod_lt _ (by decide)⟩ : Fin 16) = j := Fin.ext (by show _ % 16 = _; omega)
    rw [e1, e2, laneOf_num]

theorem semOf_injective : Function.Injective semOf := fun x y h => Option.some.inj ((cellAt_semOf x).symm.trans ((congrArg cellAt h).trans (cellAt_semOf y)))

/-- A device's cell. -/
abbrev cell (c : Dev nD) (x : Cell) : GSem nD τ sig := ((c : Thread nD τ), semOf x)

theorem cell_inj {c d : Dev nD} {x y : Cell} (h : cell c x = cell d y) : c = d ∧ x = y :=
  ⟨Fin.ext (congrArg (fun g : GSem nD τ sig => g.1.1.val) h), semOf_injective (congrArg Prod.snd h)⟩

/-! ## The schedule -/

/-- The credit of a chunk. -/
abbrev N : ℕ := (chunk oM 0 0).view.dmaCredit
theorem N_pos : 0 < N := View.dmaCredit_pos _ (by decide)

/-- Who pays a cell: both neighbours the plane's, one device every other. -/
def payers : Cell → Finset Bool
  | .plane => Finset.univ
  | _ => {false}

/-- How much a payment is. -/
def unitOf : Cell → ℕ
  | .bar => 1
  | .plane => 1
  | _ => N

/-- The rows of the result that a device hands to its neighbour `nb b c`, seen by that neighbour `c`: its quarter, and of
    the chunks that `c` will cross by direction `b` the quarter they belong to. -/
def planePay (c : Dev nD) (b : Bool) : sProp 𝕄 :=
  iprop((bigSep Finset.univ fun j : Fin 16 => freeOut (nb b c) (quarter c) j)
    ∗ bigSep Finset.univ fun j : Fin 16 => if isEven j = !b then freeOut (nb b c) (flip (!b) (quarter c)) j else iprop(emp))

/-- What a payment hands to the device that waits. -/
def pay (c : Dev nD) : Cell → Bool → sProp 𝕄
  | .bar, _ => bigSep Finset.univ fun j : Fin 16 => freeOut (dst σ c) (quarter c) j
  | .plane, b => planePay c b
  | .leave .hop j, _ => inPts m c (quarter c) j
  | .leave (.fan b) j, _ => halfOut m σ b c (quarter c) j
  | .leave .cross j, _ => fullOut m σ c (flip (isEven j) (quarter c)) j
  | .arrive .hop j, _ => fullOut m σ c (quarter c) j
  | .arrive (.fan b) j, _ => fullOut m σ c (flip b (quarter c)) j
  | .arrive .cross j, _ => fullOut m σ c (flip (isEven j) (flip (!isEven j) (quarter c))) j

theorem unitOf_pos (x : Cell) : 0 < unitOf x := by
  cases x
  · exact Nat.one_pos
  · exact Nat.one_pos
  · exact N_pos
  · exact N_pos

instance pay_storable (c : Dev nD) (x : Cell) (b : Bool) : BI.Storable (upEmb : UEmb _ 𝕄) (pay m σ c x b) := by
  have hp : BI.Storable (upEmb : UEmb _ 𝕄) (planePay (F := F) c b) := by
    unfold planePay
    have : ∀ j : Fin 16, BI.Storable (upEmb : UEmb _ 𝕄)
        (if isEven j = !b then freeOut (F := F) (nb b c) (flip (!b) (quarter c)) j else iprop(emp)) := fun j => by split <;> infer_instance
    infer_instance
  cases x with
  | bar => unfold pay; infer_instance
  | plane => exact hp
  | leave l j => cases l <;> (unfold pay; infer_instance)
  | arrive l j => cases l <;> (unfold pay; infer_instance)

/-- One round for each cell: its payers, a unit or a chunk's credit each. -/
def sched : Rounds.Schedule (GSem nD τ sig) Bool 𝕄 where
  duties g r := if r = 0 ∧ g.1.2 = .tc then (match cellAt g.2 with | some x => payers x | none => ∅) else ∅
  unitless _ := False
  amount g _ _ := match cellAt g.2 with | some x => unitOf x | none => 1
  payload g _ b := match cellAt g.2 with | some x => pay m σ g.1.1 x b | none => iprop(emp)
  amount_pos g _ _ _ := by
    cases cellAt g.2 with
    | some x => exact unitOf_pos x
    | none => exact Nat.one_pos

instance sched_payload_storable (g : GSem nD τ sig) (r : ℕ) (b : Bool) :
    BI.Storable (upEmb : UEmb _ 𝕄) ((sched m σ).payload g r b) := by
  show BI.Storable upEmb (match cellAt g.2 with | some x => pay m σ g.1.1 x b | none => iprop(emp))
  cases cellAt g.2 <;> infer_instance

theorem duties_cell (c : Dev nD) (x : Cell) : (sched m σ).duties (cell c x) 0 = payers x := by
  dsimp only [sched]; rw [if_pos ⟨rfl, rfl⟩, cellAt_semOf]
theorem duties_later (g : GSem nD τ sig) : ∀ r, 1 ≤ r → (sched m σ).duties g r = ∅ :=
  fun r hr => by dsimp only [sched]; exact if_neg fun h => by omega
theorem amount_cell (c : Dev nD) (x : Cell) (b : Bool) : (sched m σ).amount (cell c x) 0 b = unitOf x := by
  dsimp only [sched]; rw [cellAt_semOf]
theorem payload_cell (c : Dev nD) (x : Cell) (b : Bool) : (sched m σ).payload (cell c x) 0 b = pay m σ c x b := by
  dsimp only [sched]; rw [cellAt_semOf]

/-- All that a cell's round comes to. -/
theorem expect_cell (c : Dev nD) (x : Cell) : (sched m σ).expect (cell c x) 0 = (payers x).card * unitOf x := by
  unfold Schedule.expect Schedule.amountOf
  rw [duties_cell, Finset.sum_congr rfl fun b _ => amount_cell m σ c x b, Finset.sum_const, smul_eq_mul]

/-- All that a cell's round hands over. -/
theorem rest_cell (c : Dev nD) (x : Cell) :
    bigSep ((sched m σ).duties (cell c x) 0 \ ∅) (fun b => (sched m σ).payload (cell c x) 0 b) = bigSep (payers x) (pay m σ c x) := by
  rw [Finset.sdiff_empty, duties_cell]
  exact bigSep_congr fun b _ => payload_cell m σ c x b

/-! ## Levels -/

/-- The order of the waits: the two regular semaphores, then the arrivals of the hop, of the fans, of the cross; what only
    the device itself pays is below them. -/
def levelOf : Cell → ℕ
  | .bar => 1
  | .plane => 1
  | .leave _ _ => 0
  | .arrive .hop _ => 2
  | .arrive (.fan _) _ => 3
  | .arrive .cross _ => 4

def L (g : GSem nD τ sig) : Finset Unit := if g.1.2 = .tc then {()} else ∅
def lv (g : GSem nD τ sig) (_ : Unit) : ℕ := match cellAt g.2 with | some x => levelOf x | none => 0

theorem L_of_ne (g : GSem nD τ sig) (h : g.1.2 ≠ .tc) : L g = ∅ := if_neg h
theorem L_tc (c : Dev nD) (s : SemLoc sig) : L ((c : Thread nD τ), s) = {()} := if_pos rfl
theorem lv_cell (c : Dev nD) (x : Cell) : lv (cell c x) () = levelOf x := by unfold lv; rw [cellAt_semOf]

/-- Every cell that is owed to lies above a level. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
theorem Above.cell {n : ℕ} (c : Dev nD) (x : Cell) (k : ℕ) (h : n < levelOf x) : Above n (tallyAt (cell c x) () k) := fun g u hp => by
  rw [tallyAt_apply] at hp
  by_cases hg : g = Shards.cell c x ∧ u = ()
  · rw [hg.1]; exact ⟨rfl, by cases u; rw [lv_cell]; exact h⟩
  · rw [if_neg hg] at hp; exact absurd hp (Nat.lt_irrefl 0)
theorem Above.mono {n k : ℕ} {O : CellTallies nD τ sig Unit} (h : Above n O) (hk : k ≤ n) : Above k O :=
  fun g u hp => ⟨(h g u hp).1, Nat.lt_of_le_of_lt hk (h g u hp).2⟩

/-- A device may wait on one of its semaphores if all that it owes lies above. -/
theorem mayWait_of_above (c : Dev nD) (s : SemLoc sig) (O : CellTallies nD τ sig Unit) (h : Above (lv ((c : Thread nD τ), s) ()) O) :
    (levAts L lv : sProp 𝕄) ⊢ MayWait (c : Thread nD τ) s () O :=
  MayOwe.of_cut (L := L) (lev := lv) (lv ((c : Thread nD τ), s) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

end Cert.Shards

end
-- ==== Proof.Steps.lean ====
/- One step of the protocol at a time: a wait that also closes its cell, a signal, a copy of a chunk; and the rule for a
   loop over the chunks, so that each phase is proved of a symbolic chunk. -/
module

public import proofs.«01_k».proof.Proof.Sched

@[expose] public section

noncomputable section

namespace Cert.Shards

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (σ : Equiv.Perm (Fin 4))

abbrev 𝒱₀ : Variants := Variants.none

/-- The weakest precondition of a program on device `c`'s core. -/
abbrev WP (c : Dev nD) {α : Type} (p : CoreProg F α) (Q : α → sProp 𝕄) : sProp 𝕄 :=
  wp frame (wpE (defs₀ (F := F)) 𝒱₀ (c : Thread nD τ) none) Set.univ p Q

/-- What device `c` owes, whatever it has waited for. -/
def owed (c : Dev nD) (O : CellTallies nD τ sig Unit) : sProp 𝕄 := iprop(∃ W, owes (c : Thread nD τ) O W)

/-- Every cell's invariant under its name, that every cell's round has begun, and the levels. -/
def records (K : Dev nD × Cell → ℕ) : sProp 𝕄 :=
  iprop((bigSep Finset.univ fun p : Dev nD × Cell => cellInv ER (sched m σ) (K p) (cell p.1 p.2))
    ∗ (bigSep Finset.univ fun p : Dev nD × Cell => reached ER (cell p.1 p.2) 0) ∗ levAts L lv)

instance records_persistent (K : Dev nD × Cell → ℕ) : BI.Persistent (records m σ K) := by unfold records; infer_instance

variable (K : Dev nD × Cell → ℕ)

theorem records_inv (c : Dev nD) (x : Cell) : records m σ K ⊢ cellInv ER (sched m σ) (K (c, x)) (cell c x) := by
  unfold records
  iintro ⟨H, -, -⟩
  have h : (bigSep Finset.univ fun p : Dev nD × Cell => (cellInv ER (sched m σ) (K p) (cell p.1 p.2) : sProp 𝕄))
      ⊢ cellInv ER (sched m σ) (K (c, x)) (cell c x) := bigSep_elim (Finset.mem_univ (c, x))
  iapply h; iexact H
theorem records_reached (c : Dev nD) (x : Cell) : records m σ K ⊢ reached ER (cell c x) 0 := by
  unfold records
  iintro ⟨-, H, -⟩
  have h : (bigSep Finset.univ fun p : Dev nD × Cell => (reached ER (cell p.1 p.2) 0 : sProp 𝕄)) ⊢ reached ER (cell c x) 0 :=
    bigSep_elim (Finset.mem_univ (c, x))
  iapply h; iexact H
theorem records_levels {P : sProp 𝕄} (h : (levAts L lv : sProp 𝕄) ⊢ P) : records m σ K ⊢ P := by
  unfold records; iintro ⟨-, -, H⟩; iapply h; iexact H

/-- A wait for all of a cell: its payers' payments come back and the cell closes with its counter at zero. -/
theorem wp_collect (c : Dev nD) (x : Cell) (n : ℕ) (hn : (payers x).card * unitOf x = n)
    {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (semOf x) n P)
    (O : CellTallies nD τ sig Unit) (hO : Above (levelOf x) O) (Q : PUnit → sProp 𝕄) :
    iprop(records m σ K ∗ cred (tallyAt (cell c x) () n) ∗ atPos ER (cell c x) 0 ∅ 0 ∗ owed c O
        ∗ ((bigSep (payers x) (pay m σ c x) ∗ semVal (cell c x) 0 ∗ owed c O) -∗ Q ⟨⟩))
      ⊢ WP c (.op w .ret) Q := by
  have hA : Above (lv (cell c x) ()) O := by rw [lv_cell]; exact hO
  have h1 : (levAts L lv : sProp 𝕄) ⊢ MayWait (c : Thread nD τ) (semOf x) () O := mayWait_of_above c (semOf x) O hA
  have hM := records_levels m σ K h1
  unfold owed
  iintro ⟨#HR, Hc, Hat, ⟨%W, HO⟩, Hk⟩
  ihave HI := (records_inv m σ K c x) $$ HR
  icases HI with #HI
  iapply (Rounds.wp_wait_rest_token 𝒱₀ ER (sched m σ) (c : Thread nD τ) none (κ := K (c, x)) (sm := semOf x)
      hw (Set.mem_univ _) () (O := O) (W := W) (R := 0) (m := 0) (T := ∅)
      ((Nat.zero_add n).trans ((expect_cell m σ c x).trans hn).symm)) $$ [Hc HO Hat]
  · isplitr; · iexact HI
    isplitl [Hc]; · iexact Hc
    isplitl [HO]; · iexact HO
    isplitr
    · iapply hM; iexact HR
    iexact Hat
  iintro ⟨HO, Hat, -, Hpay⟩
  ihave Hp := (Entails.of_eq (rest_cell m σ c x)) $$ Hpay
  imod (Rounds.cell_close ER (sched m σ) (Set.mem_univ (K (c, x))) (fun h => h) (R := 0 + 1) (duties_later m σ (cell c x))) $$ [Hat] with Hz
  · isplitr; · iexact HI
    iexact Hat
  rw [wp_ret]; imodintro
  iapply Hk
  isplitl [Hp]; · iexact Hp
  isplitl [Hz]; · iexact Hz
  iexists _; iexact HO

/-- A transfer semaphore is waited for by `await`. -/
theorem wp_await (c : Dev nD) (x : Cell) (s : DmaSem sig) (hs : semOf x = .dma s) (hp : payers x = {false}) (hu : unitOf x = N)
    (src dst : Memref sig .tc .vmem S1x32x1024 .f32) (hN : dst.view.dmaCredit = N)
    (O : CellTallies nD τ sig Unit) (hO : Above (levelOf x) O) (Q : PUnit → sProp 𝕄) :
    iprop(records m σ K ∗ cred (tallyAt (cell c x) () N) ∗ atPos ER (cell c x) 0 ∅ 0 ∗ owed c O
        ∗ ((pay m σ c x false ∗ semVal (cell c x) 0 ∗ owed c O) -∗ Q ⟨⟩))
      ⊢ WP c (await s src dst) Q := by
  have h := wp_collect m σ K c x N (by rw [hp, hu, Finset.card_singleton, Nat.one_mul])
    (w := .waitDma2 s src dst (View.wordExact_bits rfl) (View.wordExact_bits rfl))
    (fun P => by rw [hs, ← hN]; exact wpE_waitDma2_eq 𝒱₀ (c : Thread nD τ) none Set.univ P) O hO Q
  rw [hp, bigSep_singleton] at h
  exact h

/-- A signal to another device's cell of one unit, paying one of its duties. -/
theorem wp_notify (c n : Dev nD) (x : Cell) (s : Sem sig) (hs : semOf x = .reg s) (b : Bool) (hb : b ∈ payers x) (hu : unitOf x = 1)
    (O : CellTallies nD τ sig Unit) (Q : PUnit → sProp 𝕄) :
    iprop(records m σ K ∗ owed c (O + tallyAt (cell n x) () 1) ∗ dutyTok ER (cell n x) 0 b ∗ pay m σ n x b ∗ (owed c O -∗ Q ⟨⟩))
      ⊢ WP c (semSignalWord n s 1#32) Q := by
  unfold owed
  iintro ⟨#HR, ⟨%W, HO⟩, Ht, Hp, Hk⟩
  ihave HI := (records_inv m σ K n x) $$ HR
  ihave Hr := (records_reached m σ K n x) $$ HR
  unfold semSignalWord
  iapply (Rounds.wp_signal 𝒱₀ ER (sched m σ) (c : Thread nD τ) none (dst := (n : Thread nD τ)) (sem := s) (r := 0) (k' := 1) (κ := K (n, x))
      (d := b) (by rw [← hs, duties_cell]; exact hb) (by rw [← hs, amount_cell, hu]) () (O₀ := O + tallyAt (cell n x) () 1) O
      (congrArg (fun z => O + tallyAt ((n : Thread nD τ), z) () 1) hs)) $$ [HO Ht Hp HI Hr]
  · rw [← hs]
    isplitl [HI]; · iexact HI
    isplitl [HO]; · iexact HO
    isplitl [Ht]; · iexact Ht
    isplitl [Hp]; · iapply (Entails.of_eq (payload_cell m σ n x b).symm); iexact Hp
    iexact Hr
  iintro HO
  rw [wp_ret]; imodintro
  iapply Hk
  iexists W; iexact HO

/-- A copy of a chunk that device `c` holds a share of, over the chunk of device `n`: the share comes back when the copy has
    left, the chunk is handed to `n` when it arrives. -/
theorem wp_copy (c n : Dev nD) (l : Lane) (j : Fin 16) (src dst : Memref sig .tc .vmem S1x32x1024 .f32) (hN : dst.view.dmaCredit = N)
    (q : PosShare TreeShare) (fs : Buf (Elt F) (src.view.loc (c : Thread nD τ))) (fd : Buf (Elt F) (dst.view.loc (n : Thread nD τ)))
    (h₁ : (src.view.loc (c : Thread nD τ) ↦[src.view.set]{q} fs) ⊢ pay m σ c (.leave l j) false)
    (h₂ : (dst.view.loc (n : Thread nD τ) ↦[dst.view.set]{fullShare} dst.view.write (Elt F) fd (src.view.read (Elt F) fs) Finset.univ)
      ⊢ pay m σ n (.arrive l j) false)
    (O : CellTallies nD τ sig Unit) (Q : PUnit → sProp 𝕄) :
    iprop(records m σ K ∗ (src.view.loc (c : Thread nD τ) ↦[src.view.set]{q} fs) ∗ (dst.view.loc (n : Thread nD τ) ↦[dst.view.set]{fullShare} fd)
        ∗ owed c (O + tallyAt (cell n (.arrive l j)) () N)
        ∗ dutyTok ER (cell c (.leave l j)) 0 false ∗ dutyTok ER (cell n (.arrive l j)) 0 false
        ∗ ((cred (tallyAt (cell c (.leave l j)) () N) ∗ owed c O) -∗ Q ⟨⟩))
      ⊢ WP c (copyTo n src dst (leaveS l j) (arriveS l j)) Q := by
  unfold owed
  iintro ⟨#HR, Hs, Hd, ⟨%W, HO⟩, Ht₁, Ht₂, Hk⟩
  ihave HI₁ := (records_inv m σ K c (.leave l j)) $$ HR
  ihave HI₂ := (records_inv m σ K n (.arrive l j)) $$ HR
  ihave Hr₁ := (records_reached m σ K c (.leave l j)) $$ HR
  ihave Hr₂ := (records_reached m σ K n (.arrive l j)) $$ HR
  unfold copyTo
  iapply (Rounds.wp_send_pointsTo 𝒱₀ ER (sched m σ) (c : Thread nD τ) none (κ₁ := K (c, .leave l j)) (κ₂ := K (n, .arrive l j))
    (r₁ := 0) (r₂ := 0) (d₁ := false) (d₂ := false) (fs := fs) (fd := fd) (q := q) (src := src) (dst := dst)
    (sS := .dma (leaveS l j)) (sem := .dma (arriveS l j)) (c' := (n : Thread nD τ))
    ((duties_cell m σ c (.leave l j)).symm ▸ Finset.mem_singleton_self _) ((duties_cell m σ n (.arrive l j)).symm ▸ Finset.mem_singleton_self _)
    () () N hN (amount_cell m σ c (.leave l j) false) (amount_cell m σ n (.arrive l j) false) O rfl (W := W)
    (h₁.trans (Entails.of_eq (payload_cell m σ c (.leave l j) false).symm))
    (h₂.trans (Entails.of_eq (payload_cell m σ n (.arrive l j) false).symm))) $$ [HI₁ HI₂ Hs Hd HO Ht₁ Ht₂ Hr₁ Hr₂]
  · isplitl [HI₁]; · iexact HI₁
    isplitl [HI₂]; · iexact HI₂
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  rw [wp_ret]; imodintro
  iapply Hk
  isplitl [Hc]; · iexact Hc
  iexists W; iexact HO

/-! ## Copies of a chunk of the slab -/

theorem outPts_chunk (c : Dev nD) (k : Fin 4) (j : Fin 16) (q : PosShare TreeShare) (f : (cc0_stg2_0 : Ref sig .tc).ty.Contents (Elt F)) :
    (outPts c k j q f : sProp 𝕄) = ((chunk oM k j).view.loc (c : Thread nD τ) ↦[(chunk oM k j).view.set]{q} f) := by
  rw [chunk_o_set]; rfl
theorem inPts_chunk (c : Dev nD) (k : Fin 4) (j : Fin 16) :
    (inPts m c k j : sProp 𝕄) = ((chunk xM k j).view.loc (c : Thread nD τ) ↦[(chunk xM k j).view.set]{fullShare} slabOf m c) := by
  rw [chunk_x_set]; rfl
theorem outPts_congr (c : Dev nD) (k : Fin 4) (j : Fin 16) (q : PosShare TreeShare) {f g : (cc0_stg2_0 : Ref sig .tc).ty.Contents (Elt F)}
    (h : ∀ i ∈ rowSet k j, f i = g i) : (outPts c k j q f : sProp 𝕄) = outPts c k j q g := pointsTo_congr h

/-- The hop: chunk `j` of the device's own quarter of its slab to the device the slab is sent to. -/
theorem wp_hop (c : Dev nD) (j : Fin 16) (O : CellTallies nD τ sig Unit) (Q : PUnit → sProp 𝕄) :
    iprop(records m σ K ∗ inPts m c (quarter c) j ∗ freeOut (dst σ c) (quarter c) j
        ∗ owed c (O + tallyAt (cell (dst σ c) (.arrive .hop j)) () N)
        ∗ dutyTok ER (cell c (.leave .hop j)) 0 false ∗ dutyTok ER (cell (dst σ c) (.arrive .hop j)) 0 false
        ∗ ((cred (tallyAt (cell c (.leave .hop j)) () N) ∗ owed c O) -∗ Q ⟨⟩))
      ⊢ WP c (copyTo (dst σ c) (chunk xM (quarter c) j) (chunk oM (quarter c) j) (leaveS .hop j) (arriveS .hop j)) Q := by
  unfold freeOut
  iintro ⟨HR, Hs, ⟨%fd, Hd⟩, HO, Ht₁, Ht₂, Hk⟩
  iapply (wp_copy m σ K c (dst σ c) .hop j (chunk xM (quarter c) j) (chunk oM (quarter c) j) rfl fullShare (slabOf m c) fd
    (by rw [← inPts_chunk]; exact .rfl)
    (by
      rw [← outPts_chunk]
      unfold pay fullOut
      rw [quarter_toSlab]
      exact Entails.of_eq (outPts_congr _ _ _ _ fun i hi => (copied_x _ _ _ _ i hi).trans (gathered_dst m σ c j i hi).symm)) O Q)
  isplitl [HR]; · iexact HR
  isplitl [Hs]; · iapply (Entails.of_eq (inPts_chunk m c (quarter c) j)); iexact Hs
  isplitl [Hd]; · iapply (Entails.of_eq (outPts_chunk (dst σ c) (quarter c) j fullShare fd)); iexact Hd
  isplitl [HO]; · iexact HO
  isplitl [Ht₁]; · iexact Ht₁
  isplitl [Ht₂]; · iexact Ht₂
  iexact Hk

/-- A copy of a delivered chunk to a neighbour in the slab. -/
theorem wp_forward (c : Dev nD) (b : Bool) (l : Lane) (k : Fin 4) (j : Fin 16) (q : PosShare TreeShare)
    (h₁ : pay m σ c (.leave l j) false = outPts c k j q (gathered m σ c)) (h₂ : pay m σ (nb b c) (.arrive l j) false = fullOut m σ (nb b c) k j)
    (O : CellTallies nD τ sig Unit) (Q : PUnit → sProp 𝕄) :
    iprop(records m σ K ∗ outPts c k j q (gathered m σ c) ∗ freeOut (nb b c) k j
        ∗ owed c (O + tallyAt (cell (nb b c) (.arrive l j)) () N)
        ∗ dutyTok ER (cell c (.leave l j)) 0 false ∗ dutyTok ER (cell (nb b c) (.arrive l j)) 0 false
        ∗ ((cred (tallyAt (cell c (.leave l j)) () N) ∗ owed c O) -∗ Q ⟨⟩))
      ⊢ WP c (copyTo (nb b c) (chunk oM k j) (chunk oM k j) (leaveS l j) (arriveS l j)) Q := by
  unfold freeOut
  iintro ⟨HR, Hs, ⟨%fd, Hd⟩, HO, Ht₁, Ht₂, Hk⟩
  iapply (wp_copy m σ K c (nb b c) l j (chunk oM k j) (chunk oM k j) rfl q (gathered m σ c) fd
    (by rw [← outPts_chunk, h₁])
    (by
      rw [← outPts_chunk, h₂]
      unfold fullOut
      rw [gathered_nb]
      exact Entails.of_eq (outPts_congr _ _ _ _ fun i hi => copied_o _ _ _ _ i hi)) O Q)
  isplitl [HR]; · iexact HR
  isplitl [Hs]; · iapply (Entails.of_eq (outPts_chunk c k j q (gathered m σ c))); iexact Hs
  isplitl [Hd]; · iapply (Entails.of_eq (outPts_chunk (nb b c) k j fullShare fd)); iexact Hd
  isplitl [HO]; · iexact HO
  isplitl [Ht₁]; · iexact Ht₁
  isplitl [Ht₂]; · iexact Ht₂
  iexact Hk

/-! ## A loop over the chunks -/

/-- What is owed before the chunks of a list: the chunks' debts on top of what is owed after. -/
def owing (t : Fin 16 → CellTallies nD τ sig Unit) (O : CellTallies nD τ sig Unit) : List (Fin 16) → CellTallies nD τ sig Unit
  | [] => O
  | j :: l => owing t O l + t j

theorem Above.owing {n : ℕ} {t : Fin 16 → CellTallies nD τ sig Unit} {O : CellTallies nD τ sig Unit} (hO : Above n O)
    (ht : ∀ j, Above n (t j)) : ∀ l, Above n (Shards.owing t O l)
  | [] => hO
  | j :: l => (Above.owing hO ht l).add (ht j)

/-- A loop whose body takes `A j` to `B j` and pays chunk `j`'s debt takes all the `A` to all the `B` and pays all the debts. -/
theorem wp_forEach (R : sProp 𝕄) [BI.Persistent R] (c : Dev nD) (body : Fin 16 → CoreProg F PUnit) (A B : Fin 16 → sProp 𝕄)
    (O : List (Fin 16) → CellTallies nD τ sig Unit)
    (h : ∀ (j : Fin 16) (l : List (Fin 16)) (Q : PUnit → sProp 𝕄),
      iprop(R ∗ A j ∗ owed c (O (j :: l)) ∗ ((B j ∗ owed c (O l)) -∗ Q ⟨⟩)) ⊢ WP c (body j) Q) :
    ∀ (l : List (Fin 16)) (Q : PUnit → sProp 𝕄),
      iprop(R ∗ bigSepL l A ∗ owed c (O l) ∗ ((bigSepL l B ∗ owed c (O [])) -∗ Q ⟨⟩)) ⊢ WP c (forEach body l) Q
  | [], Q => by
    iintro ⟨-, HA, HO, Hk⟩
    unfold forEach
    rw [WP, wp_pure]
    imodintro
    iapply Hk
    isplitl [HA]; · iexact HA
    iexact HO
  | j :: l, Q => by
    unfold forEach
    rw [WP, wp_bind, show bigSepL (j :: l) A = iprop(A j ∗ bigSepL l A) from bigSepL_cons j l A,
      show bigSepL (j :: l) B = iprop(B j ∗ bigSepL l B) from bigSepL_cons j l B]
    iintro ⟨#HR, ⟨HA, HAs⟩, HO, Hk⟩
    iapply (h j l)
    isplitr; · iexact HR
    isplitl [HA]; · iexact HA
    isplitl [HO]; · iexact HO
    iintro ⟨HB, HO⟩
    iapply (wp_forEach R c body A B O h l Q)
    isplitr; · iexact HR
    isplitl [HAs]; · iexact HAs
    isplitl [HO]; · iexact HO
    iintro ⟨HBs, HO⟩
    iapply Hk
    isplitr [HO]
    · isplitl [HB] <;> iassumption
    iexact HO

/-- The loop over all sixteen chunks, after which the program goes on. -/
theorem wp_chunks (R : sProp 𝕄) [BI.Persistent R] (c : Dev nD) (body : Fin 16 → CoreProg F PUnit) (A B : Fin 16 → sProp 𝕄)
    (O : List (Fin 16) → CellTallies nD τ sig Unit)
    (h : ∀ (j : Fin 16) (l : List (Fin 16)) (Q : PUnit → sProp 𝕄),
      iprop(R ∗ A j ∗ owed c (O (j :: l)) ∗ ((B j ∗ owed c (O l)) -∗ Q ⟨⟩)) ⊢ WP c (body j) Q) (Q : PUnit → sProp 𝕄) :
    iprop(R ∗ bigSep Finset.univ A ∗ owed c (O chunks) ∗ ((bigSep Finset.univ B ∗ owed c (O [])) -∗ Q ⟨⟩)) ⊢ WP c (forEach body chunks) Q := by
  rw [bigSep_univ_eq_bigSepL chunks (by decide) (by decide), bigSep_univ_eq_bigSepL chunks (by decide) (by decide)]
  exact wp_forEach R c body A B O h chunks Q

end Cert.Shards

end
-- ==== Proof.Phases.lean ====
/- The five phases, each at a symbolic chunk `j`: what a device puts in and what it has afterwards. `e = isEven j` says which
   way the chunk goes round: the direction `e` neighbour's chunk comes first and is crossed along the other direction. -/
module

public import proofs.«01_k».proof.Proof.Steps

@[expose] public section

noncomputable section

namespace Cert.Shards

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (σ : Equiv.Perm (Fin 4)) (K : Dev nD × Cell → ℕ)

/-- The right to pay a duty of a cell; the credit for a chunk's wait; a device's place at a cell before its wait; the
    cell closed after it. -/
def tok (c : Dev nD) (x : Cell) (b : Bool) : sProp 𝕄 := dutyTok ER (cell c x) 0 b
def due (c : Dev nD) (x : Cell) : sProp 𝕄 := cred (tallyAt (cell c x) () N)
def place (c : Dev nD) (x : Cell) : sProp 𝕄 := atPos ER (cell c x) 0 ∅ 0
def shut (c : Dev nD) (x : Cell) : sProp 𝕄 := semVal (cell c x) 0

/-! ## What each phase owes for a chunk -/

def debtA (c : Dev nD) (j : Fin 16) : CellTallies nD τ sig Unit := tallyAt (cell (dst σ c) (.arrive .hop j)) () N
def debtB (c : Dev nD) (j : Fin 16) : CellTallies nD τ sig Unit :=
  tallyAt (cell (nb true c) (.arrive (.fan true) j)) () N + tallyAt (cell (nb false c) (.arrive (.fan false) j)) () N
def debtC (c : Dev nD) (j : Fin 16) : CellTallies nD τ sig Unit := tallyAt (cell (nb (!isEven j) c) (.arrive .cross j)) () N

/-! ## Waiting for a chunk -/

theorem credit_x (k : Fin 4) (j : Fin 16) : (chunk xM k j).view.dmaCredit = N := rfl
theorem credit_o (k : Fin 4) (j : Fin 16) : (chunk oM k j).view.dmaCredit = N := rfl

/-- Waiting on a lane's semaphore, `src` and `dst` being any chunk. -/
theorem wp_arrived (c : Dev nD) (l : Lane) (j : Fin 16) (P : sProp 𝕄) (hP : pay m σ c (.arrive l j) false = P) (src dst : Memref sig .tc .vmem S1x32x1024 .f32) (hN : dst.view.dmaCredit = N)
    (O : CellTallies nD τ sig Unit) (hO : Above (levelOf (.arrive l j)) O) (Q : PUnit → sProp 𝕄) :
    iprop(records m σ K ∗ due c (.arrive l j) ∗ place c (.arrive l j) ∗ owed c O
        ∗ ((P ∗ shut c (.arrive l j) ∗ owed c O) -∗ Q ⟨⟩))
      ⊢ WP c (await (arriveS l j) src dst) Q :=
  hP ▸ wp_await m σ K c (.arrive l j) (arriveS l j) rfl rfl rfl src dst hN O hO Q
theorem wp_left (c : Dev nD) (l : Lane) (j : Fin 16) (P : sProp 𝕄) (hP : pay m σ c (.leave l j) false = P) (src dst : Memref sig .tc .vmem S1x32x1024 .f32) (hN : dst.view.dmaCredit = N)
    (Q : PUnit → sProp 𝕄) :
    iprop(records m σ K ∗ due c (.leave l j) ∗ place c (.leave l j) ∗ owed c 0
        ∗ ((P ∗ shut c (.leave l j) ∗ owed c 0) -∗ Q ⟨⟩))
      ⊢ WP c (await (leaveS l j) src dst) Q :=
  hP ▸ wp_await m σ K c (.leave l j) (leaveS l j) rfl rfl rfl src dst hN 0 (Above.zero _) Q

/-! ## Phase A: the hop -/

def preA (c : Dev nD) (j : Fin 16) : sProp 𝕄 :=
  iprop(inPts m c (quarter c) j ∗ freeOut (dst σ c) (quarter c) j ∗ tok c (.leave .hop j) false ∗ tok (dst σ c) (.arrive .hop j) false)
def postA (c : Dev nD) (j : Fin 16) : sProp 𝕄 := due c (.leave .hop j)

theorem wp_phaseA (c : Dev nD) (hv : k0_chk2 c (word (σ (slab c)))) (j : Fin 16) (O : CellTallies nD τ sig Unit) (Q : PUnit → sProp 𝕄) :
    iprop(records m σ K ∗ preA m σ c j ∗ owed c (O + debtA σ c j) ∗ ((postA c j ∗ owed c O) -∗ Q ⟨⟩))
      ⊢ WP c (phaseA xM oM cc0_scratch0 cc0_scratch1 c (word (σ (slab c))) hv j) Q := by
  unfold phaseA
  rw [dev4_toSlab c _ hv, ownRows_eq, ownRows_eq, semAt_leave_hop, semAt_arrive_hop]
  unfold preA postA debtA tok due
  iintro ⟨HR, ⟨Hs, Hd, Ht₁, Ht₂⟩, HO, Hk⟩
  iapply (wp_hop m σ K c j O Q)
  isplitl [HR]; · iexact HR
  isplitl [Hs]; · iexact Hs
  isplitl [Hd]; · iexact Hd
  isplitl [HO]; · iexact HO
  isplitl [Ht₁]; · iexact Ht₁
  isplitl [Ht₂]; · iexact Ht₂
  iexact Hk

/-! ## Phase B: the two fans -/

/-- What the fan in a direction needs: the neighbour's rows and the tokens of both ends. -/
def fanKit (c : Dev nD) (b : Bool) (j : Fin 16) : sProp 𝕄 :=
  iprop(freeOut (nb b c) (quarter c) j ∗ tok c (.leave (.fan b) j) false ∗ tok (nb b c) (.arrive (.fan b) j) false)
def preB (c : Dev nD) (j : Fin 16) : sProp 𝕄 :=
  iprop((due c (.arrive .hop j) ∗ place c (.arrive .hop j)) ∗ fanKit c false j ∗ fanKit c true j)
def postB (c : Dev nD) (j : Fin 16) : sProp 𝕄 :=
  iprop(shut c (.arrive .hop j) ∗ due c (.leave (.fan false) j) ∗ due c (.leave (.fan true) j))

/-- What the neighbour gets by a fan is the same rows. -/
theorem fan_pay (c : Dev nD) (b : Bool) (j : Fin 16) : pay m σ (nb b c) (.arrive (.fan b) j) false = fullOut m σ (nb b c) (quarter c) j := by
  show fullOut m σ (nb b c) (flip b (quarter (nb b c))) j = _
  rw [quarter_nb, flip_flip]

theorem wp_fan (c : Dev nD) (b : Bool) (j : Fin 16) (O : CellTallies nD τ sig Unit) (Q : PUnit → sProp 𝕄) :
    iprop(records m σ K ∗ halfOut m σ b c (quarter c) j ∗ fanKit c b j ∗ owed c (O + tallyAt (cell (nb b c) (.arrive (.fan b) j)) () N)
        ∗ ((due c (.leave (.fan b) j) ∗ owed c O) -∗ Q ⟨⟩))
      ⊢ WP c (copyTo (nb b c) (chunk oM (quarter c) j) (chunk oM (quarter c) j) (leaveS (.fan b) j) (arriveS (.fan b) j)) Q := by
  unfold fanKit tok due halfOut
  iintro ⟨HR, Hs, ⟨Hd, Ht₁, Ht₂⟩, HO, Hk⟩
  iapply (wp_forward m σ K c b (.fan b) (quarter c) j (half b) rfl (fan_pay m σ c b j) O Q)
  isplitl [HR]; · iexact HR
  isplitl [Hs]; · iexact Hs
  isplitl [Hd]; · iexact Hd
  isplitl [HO]; · iexact HO
  isplitl [Ht₁]; · iexact Ht₁
  isplitl [Ht₂]; · iexact Ht₂
  iexact Hk

theorem wp_phaseB (c : Dev nD) (j : Fin 16) (O : CellTallies nD τ sig Unit) (hO : Above 2 O) (Q : PUnit → sProp 𝕄) :
    iprop(records m σ K ∗ preB c j ∗ owed c (O + debtB c j) ∗ ((postB c j ∗ owed c O) -∗ Q ⟨⟩))
      ⊢ WP c (phaseB xM oM cc0_scratch1 cc0_scratch2 cc0_scratch3 cc0_scratch4 cc0_scratch5 c j) Q := by
  unfold phaseB
  rw [dev20_nb, dev21_nb, ownRows_eq, ownRows_eq, semAt_arrive_hop, semAt_leave_x, semAt_arrive_x, semAt_leave_y, semAt_arrive_y]
  rw [WP, wp_bind]
  unfold preB postB
  iintro ⟨#HR, ⟨⟨Hc, Hat⟩, Hx, Hy⟩, HO, Hk⟩
  iapply (wp_arrived m σ K c .hop j (fullOut m σ c (quarter c) j) rfl _ _ (credit_o _ _) (O + debtB c j) (hO.add ((Above.cell _ _ _ (by decide : 2 < 3)).add (Above.cell _ _ _ (by decide : 2 < 3)))))
  isplitr; · iexact HR
  isplitl [Hc]; · iexact Hc
  isplitl [Hat]; · iexact Hat
  isplitl [HO]; · iexact HO
  unfold debtB
  rw [← add_assoc]
  iintro ⟨Hp, Hz, HO⟩
  ihave Hp := (fullOut_halves m σ c (quarter c) j).1 $$ Hp
  icases Hp with ⟨Hp₀, Hp₁⟩
  rw [wp_bind]
  iapply (wp_fan m σ K c false j)
  isplitr; · iexact HR
  isplitl [Hp₀]; · iexact Hp₀
  isplitl [Hx]; · iexact Hx
  isplitl [HO]; · iexact HO
  iintro ⟨Hl₀, HO⟩
  iapply (wp_fan m σ K c true j)
  isplitr; · iexact HR
  isplitl [Hp₁]; · iexact Hp₁
  isplitl [Hy]; · iexact Hy
  isplitl [HO]; · iexact HO
  iintro ⟨Hl₁, HO⟩
  iapply Hk
  isplitr [HO]
  · isplitl [Hz]; · iexact Hz
    isplitl [Hl₀] <;> iassumption
  iexact HO

/-! ## Phase C: the cross -/

/-- What the cross of a chunk needs: the other neighbour's rows and the tokens of both ends. -/
def crossKit (c : Dev nD) (j : Fin 16) : sProp 𝕄 :=
  iprop(freeOut (nb (!isEven j) c) (flip (isEven j) (quarter c)) j ∗ tok c (.leave .cross j) false ∗ tok (nb (!isEven j) c) (.arrive .cross j) false)
def preC (c : Dev nD) (j : Fin 16) : sProp 𝕄 :=
  iprop((due c (.arrive (.fan (isEven j)) j) ∗ place c (.arrive (.fan (isEven j)) j)) ∗ crossKit c j)
def postC (c : Dev nD) (j : Fin 16) : sProp 𝕄 := iprop(shut c (.arrive (.fan (isEven j)) j) ∗ due c (.leave .cross j))

/-- What the other neighbour gets by a cross is the same rows. -/
theorem cross_pay (c : Dev nD) (j : Fin 16) :
    pay m σ (nb (!isEven j) c) (.arrive .cross j) false = fullOut m σ (nb (!isEven j) c) (flip (isEven j) (quarter c)) j := by
  show fullOut m σ (nb (!isEven j) c) (flip (isEven j) (flip (!isEven j) (quarter (nb (!isEven j) c)))) j = _
  rw [quarter_nb, flip_flip]

theorem wp_cross (c : Dev nD) (j : Fin 16) (O : CellTallies nD τ sig Unit) (Q : PUnit → sProp 𝕄) :
    iprop(records m σ K ∗ fullOut m σ c (flip (isEven j) (quarter c)) j ∗ crossKit c j ∗ owed c (O + debtC c j)
        ∗ ((due c (.leave .cross j) ∗ owed c O) -∗ Q ⟨⟩))
      ⊢ WP c (copyTo (nb (!isEven j) c) (chunk oM (flip (isEven j) (quarter c)) j) (chunk oM (flip (isEven j) (quarter c)) j)
          (leaveS .cross j) (arriveS .cross j)) Q := by
  unfold crossKit tok due fullOut debtC
  iintro ⟨HR, Hs, ⟨Hd, Ht₁, Ht₂⟩, HO, Hk⟩
  iapply (wp_forward m σ K c (!isEven j) .cross (flip (isEven j) (quarter c)) j fullShare rfl (cross_pay m σ c j) O Q)
  isplitl [HR]; · iexact HR
  isplitl [Hs]; · iexact Hs
  isplitl [Hd]; · iexact Hd
  isplitl [HO]; · iexact HO
  isplitl [Ht₁]; · iexact Ht₁
  isplitl [Ht₂]; · iexact Ht₂
  iexact Hk

/-- Phase C in terms of the direction. -/
theorem phaseC_eq (c : Dev nD) (j : Fin 16) :
    (phaseC oM cc0_scratch3 cc0_scratch5 cc0_scratch6 cc0_scratch7 c j : CoreProg F PUnit)
      = (await (arriveS (.fan (isEven j)) j) (chunk oM (quarter c) j) (chunk oM (quarter c) j) >>= fun _ =>
          copyTo (nb (!isEven j) c) (chunk oM (flip (isEven j) (quarter c)) j) (chunk oM (flip (isEven j) (quarter c)) j)
            (leaveS .cross j) (arriveS .cross j)) := by
  unfold phaseC
  cases h : isEven j
  · rw [dev53_nb, oddRows_eq oM c j h, ownRows_eq, semAt_arrive_x, semAt_leave_cross, semAt_arrive_cross, h]; rfl
  · rw [dev52_nb, evenRows_eq oM c j h, ownRows_eq, semAt_arrive_y, semAt_leave_cross, semAt_arrive_cross, h]; rfl

theorem wp_phaseC (c : Dev nD) (j : Fin 16) (O : CellTallies nD τ sig Unit) (hO : Above 3 O) (Q : PUnit → sProp 𝕄) :
    iprop(records m σ K ∗ preC c j ∗ owed c (O + debtC c j) ∗ ((postC c j ∗ owed c O) -∗ Q ⟨⟩))
      ⊢ WP c (phaseC oM cc0_scratch3 cc0_scratch5 cc0_scratch6 cc0_scratch7 c j) Q := by
  rw [phaseC_eq, WP, wp_bind]
  unfold preC postC
  iintro ⟨#HR, ⟨⟨Hc, Hat⟩, Hx⟩, HO, Hk⟩
  iapply (wp_arrived m σ K c (.fan (isEven j)) j (fullOut m σ c (flip (isEven j) (quarter c)) j) rfl _ _ (credit_o _ _) (O + debtC c j) (hO.add (Above.cell _ _ _ (by decide : 3 < 4))))
  isplitr; · iexact HR
  isplitl [Hc]; · iexact Hc
  isplitl [Hat]; · iexact Hat
  isplitl [HO]; · iexact HO
  iintro ⟨Hp, Hz, HO⟩
  iapply (wp_cross m σ K c j)
  isplitr; · iexact HR
  isplitl [Hp]; · iexact Hp
  isplitl [Hx]; · iexact Hx
  isplitl [HO]; · iexact HO
  iintro ⟨Hl, HO⟩
  iapply Hk
  isplitr [HO]
  · isplitl [Hz] <;> iassumption
  iexact HO

/-! ## Phase D: the last arrivals -/

def preD (c : Dev nD) (j : Fin 16) : sProp 𝕄 :=
  iprop((due c (.arrive (.fan (!isEven j)) j) ∗ place c (.arrive (.fan (!isEven j)) j)) ∗ due c (.arrive .cross j) ∗ place c (.arrive .cross j))
def postD (c : Dev nD) (j : Fin 16) : sProp 𝕄 :=
  iprop((fullOut m σ c (flip (!isEven j) (quarter c)) j ∗ shut c (.arrive (.fan (!isEven j)) j))
    ∗ fullOut m σ c (flip (isEven j) (flip (!isEven j) (quarter c))) j ∗ shut c (.arrive .cross j))

/-- Phase D in terms of the direction. -/
theorem phaseD_eq (c : Dev nD) (j : Fin 16) :
    (phaseD oM cc0_scratch3 cc0_scratch5 cc0_scratch7 c j : CoreProg F PUnit)
      = (await (arriveS (.fan (!isEven j)) j) (chunk oM (quarter c) j) (chunk oM (quarter c) j) >>= fun _ =>
          await (arriveS .cross j) (chunk oM (flip (isEven j) (quarter c)) j) (chunk oM (flip (isEven j) (quarter c)) j)) := by
  unfold phaseD
  cases h : isEven j
  · rw [oddRows_eq oM c j h, ownRows_eq, semAt_arrive_y, semAt_arrive_cross, h]; rfl
  · rw [evenRows_eq oM c j h, ownRows_eq, semAt_arrive_x, semAt_arrive_cross, h]; rfl

theorem wp_phaseD (c : Dev nD) (j : Fin 16) (Q : PUnit → sProp 𝕄) :
    iprop(records m σ K ∗ preD c j ∗ owed c 0 ∗ ((postD m σ c j ∗ owed c 0) -∗ Q ⟨⟩))
      ⊢ WP c (phaseD oM cc0_scratch3 cc0_scratch5 cc0_scratch7 c j) Q := by
  rw [phaseD_eq, WP, wp_bind]
  unfold preD postD
  iintro ⟨#HR, ⟨⟨Hc, Hat⟩, Hc', Hat'⟩, HO, Hk⟩
  iapply (wp_arrived m σ K c (.fan (!isEven j)) j (fullOut m σ c (flip (!isEven j) (quarter c)) j) rfl _ _ (credit_o _ _) 0 (Above.zero _))
  isplitr; · iexact HR
  isplitl [Hc]; · iexact Hc
  isplitl [Hat]; · iexact Hat
  isplitl [HO]; · iexact HO
  iintro ⟨Hp, Hz, HO⟩
  iapply (wp_arrived m σ K c .cross j (fullOut m σ c (flip (isEven j) (flip (!isEven j) (quarter c))) j) rfl _ _ (credit_o _ _) 0 (Above.zero _))
  isplitr; · iexact HR
  isplitl [Hc']; · iexact Hc'
  isplitl [Hat']; · iexact Hat'
  isplitl [HO]; · iexact HO
  iintro ⟨Hp', Hz', HO⟩
  iapply Hk
  isplitr [HO]
  · isplitl [Hp Hz]
    · isplitl [Hp]; · iexact Hp
      iexact Hz
    isplitl [Hp']; · iexact Hp'
    iexact Hz'
  iexact HO

/-! ## Phase E: the copies have left -/

def preE (c : Dev nD) (j : Fin 16) : sProp 𝕄 :=
  iprop((due c (.leave .hop j) ∗ place c (.leave .hop j)) ∗ (due c (.leave (.fan false) j) ∗ place c (.leave (.fan false) j))
    ∗ (due c (.leave (.fan true) j) ∗ place c (.leave (.fan true) j)) ∗ due c (.leave .cross j) ∗ place c (.leave .cross j))
def postE (c : Dev nD) (j : Fin 16) : sProp 𝕄 :=
  iprop(inPts m c (quarter c) j ∗ (fullOut m σ c (quarter c) j ∗ fullOut m σ c (flip (isEven j) (quarter c)) j)
    ∗ shut c (.leave .hop j) ∗ shut c (.leave (.fan false) j) ∗ shut c (.leave (.fan true) j) ∗ shut c (.leave .cross j))

/-- Phase E in terms of the direction. -/
theorem phaseE_eq (c : Dev nD) (j : Fin 16) :
    (phaseE xM oM cc0_scratch0 cc0_scratch2 cc0_scratch4 cc0_scratch6 c j : CoreProg F PUnit)
      = (await (leaveS .hop j) (chunk oM (quarter c) j) (chunk xM (quarter c) j) >>= fun _ =>
          await (leaveS (.fan false) j) (chunk oM (quarter c) j) (chunk oM (quarter c) j) >>= fun _ =>
          await (leaveS (.fan true) j) (chunk oM (quarter c) j) (chunk oM (quarter c) j) >>= fun _ =>
          await (leaveS .cross j) (chunk oM (flip (isEven j) (quarter c)) j) (chunk oM (flip (isEven j) (quarter c)) j)) := by
  unfold phaseE
  cases h : isEven j
  · rw [oddRows_eq oM c j h, ownRows_eq, ownRows_eq, semAt_leave_hop, semAt_leave_x, semAt_leave_y, semAt_leave_cross, h]
  · rw [evenRows_eq oM c j h, ownRows_eq, ownRows_eq, semAt_leave_hop, semAt_leave_x, semAt_leave_y, semAt_leave_cross, h]

theorem wp_phaseE (c : Dev nD) (j : Fin 16) (Q : PUnit → sProp 𝕄) :
    iprop(records m σ K ∗ preE c j ∗ owed c 0 ∗ ((postE m σ c j ∗ owed c 0) -∗ Q ⟨⟩))
      ⊢ WP c (phaseE xM oM cc0_scratch0 cc0_scratch2 cc0_scratch4 cc0_scratch6 c j) Q := by
  rw [phaseE_eq, WP, wp_bind]
  unfold preE postE
  iintro ⟨#HR, ⟨⟨Hc₀, Hat₀⟩, ⟨Hc₁, Hat₁⟩, ⟨Hc₂, Hat₂⟩, Hc₃, Hat₃⟩, HO, Hk⟩
  iapply (wp_left m σ K c .hop j (inPts m c (quarter c) j) rfl _ _ (credit_x _ _))
  isplitr; · iexact HR
  isplitl [Hc₀]; · iexact Hc₀
  isplitl [Hat₀]; · iexact Hat₀
  isplitl [HO]; · iexact HO
  iintro ⟨Hp₀, Hz₀, HO⟩
  rw [wp_bind]
  iapply (wp_left m σ K c (.fan false) j (halfOut m σ false c (quarter c) j) rfl _ _ (credit_o _ _))
  isplitr; · iexact HR
  isplitl [Hc₁]; · iexact Hc₁
  isplitl [Hat₁]; · iexact Hat₁
  isplitl [HO]; · iexact HO
  iintro ⟨Hp₁, Hz₁, HO⟩
  rw [wp_bind]
  iapply (wp_left m σ K c (.fan true) j (halfOut m σ true c (quarter c) j) rfl _ _ (credit_o _ _))
  isplitr; · iexact HR
  isplitl [Hc₂]; · iexact Hc₂
  isplitl [Hat₂]; · iexact Hat₂
  isplitl [HO]; · iexact HO
  iintro ⟨Hp₂, Hz₂, HO⟩
  iapply (wp_left m σ K c .cross j (fullOut m σ c (flip (isEven j) (quarter c)) j) rfl _ _ (credit_o _ _))
  isplitr; · iexact HR
  isplitl [Hc₃]; · iexact Hc₃
  isplitl [Hat₃]; · iexact Hat₃
  isplitl [HO]; · iexact HO
  iintro ⟨Hp₃, Hz₃, HO⟩
  iapply Hk
  isplitr [HO]
  · isplitl [Hp₀]; · iexact Hp₀
    isplitl [Hp₁ Hp₂ Hp₃]
    · isplitl [Hp₁ Hp₂]
      · iapply (fullOut_halves m σ c (quarter c) j).2
        isplitl [Hp₁]; · iexact Hp₁
        iexact Hp₂
      iexact Hp₃
    isplitl [Hz₀]; · iexact Hz₀
    isplitl [Hz₁]; · iexact Hz₁
    isplitl [Hz₂] <;> iassumption
  iexact HO

end Cert.Shards

end
-- ==== Proof.Core.lean ====
/- The signals, the waits and the five loops one after another: from what a device is dealt to all four quarters of its
   result delivered and every cell closed. -/
module

public import proofs.«01_k».proof.Proof.Phases

@[expose] public section

noncomputable section

namespace Cert.Shards

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sorting the chunks by parity, the quarters by direction, the cells by lane -/

/-- Something for every chunk. -/
abbrev each (Φ : Fin 16 → sProp 𝕄) : sProp 𝕄 := bigSep Finset.univ Φ

/-- Both directions' things for every chunk are the chunk's own direction's and the other's. -/
theorem each_directions (Φ : Bool → Fin 16 → sProp 𝕄) :
    iprop(each (Φ false) ∗ each (Φ true)) = iprop(each (fun j => Φ (isEven j) j) ∗ each fun j => Φ (!isEven j) j) := by
  unfold each
  rw [← bigSep_sep', ← bigSep_sep']
  refine bigSep_congr fun j _ => ?_
  cases isEven j
  · rfl
  · show iprop(Φ false j ∗ Φ true j) = iprop(Φ true j ∗ Φ false j)
    exact equiv_iff.mp ⟨BI.sep_comm, BI.sep_comm⟩

/-- A thing for every chunk in its other direction is dealt to the two directions. -/
theorem each_dealt (Φ : Bool → Fin 16 → sProp 𝕄) :
    iprop(each (fun j => if isEven j = !false then Φ false j else iprop(emp)) ∗ each fun j => if isEven j = !true then Φ true j else iprop(emp))
      = each fun j => Φ (!isEven j) j := by
  unfold each
  rw [← bigSep_sep']
  refine bigSep_congr fun j _ => ?_
  cases isEven j
  · exact equiv_iff.mp BI.emp_sep
  · exact equiv_iff.mp BI.sep_emp

/-- The four quarters: the own one, the two neighbours', the diagonal one. -/
theorem quarters (e : Bool) (q : Fin 4) (Φ : Fin 4 → sProp 𝕄) :
    bigSep Finset.univ Φ = iprop(Φ q ∗ Φ (flip e q) ∗ Φ (flip (!e) q) ∗ Φ (flip e (flip (!e) q))) :=
  bigSep_univ_eq_bigSepL [q, flip e q, flip (!e) q, flip e (flip (!e) q)] (by revert e q; decide) (by revert e q; decide) Φ

/-- The chunks of the whole slab, sorted. -/
theorem slab_sorted (q : Fin 4) (Φ : Fin 4 → Fin 16 → sProp 𝕄) :
    (bigSep Finset.univ fun p : Fin 4 × Fin 16 => Φ p.1 p.2)
      = iprop(each (fun j => Φ q j) ∗ each (fun j => Φ (flip (isEven j) q) j) ∗ each (fun j => Φ (flip (!isEven j) q) j)
          ∗ each fun j => Φ (flip (isEven j) (flip (!isEven j) q)) j) := by
  rw [bigSep_univ_prod, bigSep_univ_comm, bigSep_congr fun j _ => quarters (isEven j) q fun k => Φ k j]
  simp only [bigSep_sep']

/-- The four lanes. -/
def legs (Φ : Lane → sProp 𝕄) : sProp 𝕄 := iprop(Φ .hop ∗ Φ (.fan false) ∗ Φ (.fan true) ∗ Φ .cross)
theorem bigSep_lanes (Φ : Lane → sProp 𝕄) : bigSep Finset.univ Φ = legs Φ := by
  unfold legs
  exact bigSep_univ_eq_bigSepL [.hop, .fan false, .fan true, .cross] (by decide) (by decide) Φ

/-- Something for every cell of a device, by lanes and chunks. -/
def cells (Φ : Cell → sProp 𝕄) : sProp 𝕄 :=
  iprop(Φ .bar ∗ Φ .plane ∗ each (fun j => legs fun l => Φ (.leave l j)) ∗ each fun j => legs fun l => Φ (.arrive l j))
theorem bigSep_cells (Φ : Cell → sProp 𝕄) : bigSep Finset.univ Φ = cells Φ := by
  have hp : ∀ Ψ : Lane × Fin 16 → sProp 𝕄, bigSep Finset.univ Ψ = each fun j => legs fun l => Ψ (l, j) := fun Ψ => by
    rw [bigSep_univ_prod, bigSep_univ_comm]; exact bigSep_congr fun j _ => bigSep_lanes _
  have hb : ∀ Ψ : Bool → sProp 𝕄, bigSep Finset.univ Ψ = iprop(Ψ false ∗ Ψ true) :=
    fun Ψ => bigSep_univ_eq_bigSepL [false, true] (by decide) (by decide) Ψ
  rw [bigSep_univ_equiv cellEquiv.symm, bigSep_univ_sum, bigSep_univ_sum, hb, hp, hp]
  unfold cells
  exact equiv_iff.mp ⟨BI.sep_assoc, BI.sep_assoc'⟩

variable (m : (ℓ : Loc nD τ sig) → Buf (Elt F) ℓ) (σ : Equiv.Perm (Fin 4)) (K : Dev nD × Cell → ℕ)

/-! ## What a device starts with -/

/-- The debts after the three signals, phase by phase, and all of them. -/
def owedC (c : Dev nD) : List (Fin 16) → CellTallies nD τ sig Unit := owing (debtC c) 0
def owedB (c : Dev nD) : List (Fin 16) → CellTallies nD τ sig Unit := owing (debtB c) (owedC c chunks)
def owedA (c : Dev nD) : List (Fin 16) → CellTallies nD τ sig Unit := owing (debtA σ c) (owedB c chunks)
def O₀ (c : Dev nD) : CellTallies nD τ sig Unit :=
  ((owedA σ c chunks + tallyAt (cell (nb true c) .plane) () 1) + tallyAt (cell (nb false c) .plane) () 1) + tallyAt (cell (src σ c) .bar) () 1

theorem above_owedC (c : Dev nD) (l : List (Fin 16)) : Above 3 (owedC c l) :=
  Above.owing (Above.zero _) (fun j => Above.cell _ _ _ (by decide : 3 < 4)) l
theorem above_owedB (c : Dev nD) (l : List (Fin 16)) : Above 2 (owedB c l) :=
  Above.owing ((above_owedC c chunks).mono (by decide))
    (fun j => (Above.cell _ _ _ (by decide : 2 < 3)).add (Above.cell _ _ _ (by decide : 2 < 3))) l
theorem above_owedA (c : Dev nD) (l : List (Fin 16)) : Above 1 (owedA σ c l) :=
  Above.owing ((above_owedB c chunks).mono (by decide)) (fun j => Above.cell _ _ _ (by decide : 1 < 2)) l

/-- The tokens of the duties a device pays. -/
def payToks (c : Dev nD) : sProp 𝕄 :=
  iprop((tok (src σ c) .bar false ∗ tok (nb false c) .plane false ∗ tok (nb true c) .plane true)
    ∗ each (fun j => legs fun l => tok c (.leave l j) false)
    ∗ each (fun j => tok (dst σ c) (.arrive .hop j) false) ∗ each (fun j => tok (nb false c) (.arrive (.fan false) j) false)
    ∗ each (fun j => tok (nb true c) (.arrive (.fan true) j) false) ∗ each fun j => tok (nb (!isEven j) c) (.arrive .cross j) false)

/-- The credits for the waits on what others pay. -/
def credits (c : Dev nD) : sProp 𝕄 :=
  iprop(cred (tallyAt (cell c .bar) () 1) ∗ cred (tallyAt (cell c .plane) () 2) ∗ each fun j => legs fun l => due c (.arrive l j))

/-- A device's own result, free, sorted. -/
def freeSlab (c : Dev nD) : sProp 𝕄 := bigSep Finset.univ fun p : Fin 4 × Fin 16 => freeOut c p.1 p.2
/-- A device's own result, delivered. -/
def fullSlab (c : Dev nD) : sProp 𝕄 := bigSep Finset.univ fun p : Fin 4 × Fin 16 => fullOut m σ c p.1 p.2

/-- What a device pays to its neighbours: the rows that they will write. -/
theorem planePay_out (c : Dev nD) :
    iprop(each (fun j => freeOut c (flip (isEven j) (quarter c)) j) ∗ each (fun j => freeOut c (flip (!isEven j) (quarter c)) j)
        ∗ each fun j => freeOut c (flip (isEven j) (flip (!isEven j) (quarter c))) j)
      ⊢ (iprop(planePay (nb false c) false ∗ planePay (nb true c) true) : sProp 𝕄) := by
  have h1 := each_directions fun b j => (freeOut c (flip b (quarter c)) j : sProp 𝕄)
  have h2 := each_dealt fun b j => (freeOut c (flip (!b) (flip b (quarter c))) j : sProp 𝕄)
  simp only [Bool.not_not] at h2
  unfold planePay
  simp only [nb_nb, quarter_nb]
  iintro ⟨H1, H2, H3⟩
  ihave H := (Entails.of_eq h1.symm) $$ [H1 H2]
  · isplitl [H1] <;> iassumption
  icases H with ⟨H1, H2⟩
  ihave H := (Entails.of_eq h2.symm) $$ H3
  icases H with ⟨H3, H4⟩
  isplitl [H1 H3]
  · isplitl [H1] <;> iassumption
  isplitl [H2] <;> iassumption

/-- What a device's neighbours pay: the rows that it will write. -/
theorem planePay_in (c : Dev nD) :
    (bigSep (payers .plane) (pay m σ c .plane) : sProp 𝕄)
      ⊢ iprop(each (fun j => freeOut (nb false c) (quarter c) j) ∗ each (fun j => freeOut (nb true c) (quarter c) j)
          ∗ each fun j => freeOut (nb (!isEven j) c) (flip (isEven j) (quarter c)) j) := by
  have h2 := each_dealt fun b j => (freeOut (nb b c) (flip (!b) (quarter c)) j : sProp 𝕄)
  simp only [Bool.not_not] at h2
  have hb : (bigSep (payers .plane) (pay m σ c .plane) : sProp 𝕄) = iprop(planePay c false ∗ planePay c true) :=
    bigSep_univ_eq_bigSepL [false, true] (by decide) (by decide) _
  rw [hb, ← h2]
  unfold planePay
  iintro ⟨⟨H1, H3⟩, H2, H4⟩
  isplitl [H1]; · iexact H1
  isplitl [H2]; · iexact H2
  isplitl [H3] <;> iassumption

/-! ## The core of the body -/

/-- What a device starts with: its input's own quarter, its result free, the tokens, its place at every cell, the credits. -/
def coreIn (c : Dev nD) : sProp 𝕄 :=
  iprop(each (fun j => inPts m c (quarter c) j) ∗ freeSlab c ∗ payToks σ c ∗ cells (place c) ∗ credits c)
/-- What it ends with: the input's quarter back, its result delivered, every cell closed. -/
def coreOut (c : Dev nD) : sProp 𝕄 :=
  iprop(each (fun j => inPts m c (quarter c) j) ∗ fullSlab m σ c ∗ cells (shut c))

set_option maxHeartbeats 1000000 in
theorem wp_core (c : Dev nD) (hv : k0_chk2 c (word (σ (slab c)))) (hs : k0_chk1 c (word (σ 0)) (word (σ 1)) (word (σ 2)) (word (σ 3)))
    (Q : PUnit → sProp 𝕄) :
    iprop(records m σ K ∗ coreIn m σ c ∗ owed c (O₀ σ c) ∗ ((coreOut m σ c ∗ owed c 0) -∗ Q ⟨⟩))
      ⊢ WP c (afterTable xM oM cc0_scratch0 cc0_scratch1 cc0_scratch2 cc0_scratch3 cc0_scratch4 cc0_scratch5 cc0_scratch6 cc0_scratch7
          cc0_scratch8 c (word (σ (slab c))) (word (σ 0)) (word (σ 1)) (word (σ 2)) (word (σ 3)) hv hs) Q := by
  unfold afterTable coreIn payToks credits freeSlab
  rw [slab_sorted (quarter c), dev1_src σ c hs, dev2_nb, dev3_nb, WP, wp_bind]
  iintro ⟨#HR, ⟨Hin, ⟨Hf, Hf₁, Hf₂, Hf₃⟩, ⟨⟨Tb, Tx, Ty⟩, Tl, Ta, Ta₁, Ta₂, Ta₃⟩, Hat, Cb, Cp, Ca⟩, HO, Hk⟩
  unfold O₀
  iapply (wp_notify m σ K c (src σ c) .bar barS rfl false (Finset.mem_singleton_self _) rfl)
  isplitr; · iexact HR
  isplitl [HO]; · iexact HO
  isplitl [Tb]; · unfold tok; iexact Tb
  isplitl [Hf]
  · iapply (show each (fun j => freeOut c (quarter c) j) ⊢ pay m σ (src σ c) .bar false from by
      unfold pay; rw [dst_src, quarter_toSlab])
    iexact Hf
  iintro HO
  ihave Hf := (planePay_out (F := F) c) $$ [Hf₁ Hf₂ Hf₃]
  · isplitl [Hf₁]; · iexact Hf₁
    isplitl [Hf₂] <;> iassumption
  icases Hf with ⟨Hx, Hy⟩
  rw [wp_bind]
  iapply (wp_notify m σ K c (nb false c) .plane planeS rfl false (Finset.mem_univ _) rfl)
  isplitr; · iexact HR
  isplitl [HO]; · iexact HO
  isplitl [Tx]; · unfold tok; iexact Tx
  isplitl [Hx]; · iapply (show planePay (nb false c) false ⊢ pay m σ (nb false c) .plane false from .rfl); iexact Hx
  iintro HO
  rw [wp_bind]
  iapply (wp_notify m σ K c (nb true c) .plane planeS rfl true (Finset.mem_univ _) rfl)
  isplitr; · iexact HR
  isplitl [HO]; · iexact HO
  isplitl [Ty]; · unfold tok; iexact Ty
  isplitl [Hy]; · iapply (show planePay (nb true c) true ⊢ pay m σ (nb true c) .plane true from .rfl); iexact Hy
  iintro HO
  rw [wp_bind]
  unfold cells legs
  simp only [bigSep_sep']
  icases Hat with ⟨Ab, Ap, ⟨Al₀, Al₁, Al₂, Al₃⟩, Aa₀, Aa₁, Aa₂, Aa₃⟩
  icases Tl with ⟨Tl₀, Tl₁, Tl₂, Tl₃⟩
  icases Ca with ⟨Ca₀, Ca₁, Ca₂, Ca₃⟩
  iapply (wp_collect m σ K c .bar 1 (by decide) (wpE_semWait_eq 𝒱₀ (c : Thread nD τ) none Set.univ) (owedA σ c chunks) (above_owedA σ c chunks))
  isplitr; · iexact HR
  isplitl [Cb]; · iexact Cb
  isplitl [Ab]; · unfold place; iexact Ab
  isplitl [HO]; · iexact HO
  iintro ⟨Hp, Zb, HO⟩
  ihave Hd := (show (bigSep (payers .bar) (pay m σ c .bar) : sProp 𝕄) ⊢ each (fun j => freeOut (dst σ c) (quarter c) j) from by
    unfold payers; rw [bigSep_singleton]; exact .rfl) $$ Hp
  rw [wp_bind]
  iapply (wp_chunks (records m σ K) c _ (preA m σ c) (postA c) (owedA σ c) (fun j l Q => wp_phaseA m σ K c hv j (owedA σ c l) Q))
  isplitr; · iexact HR
  isplitl [Hin Hd Tl₀ Ta]
  · unfold preA
    simp only [bigSep_sep']
    isplitl [Hin]; · iexact Hin
    isplitl [Hd]; · iexact Hd
    isplitl [Tl₀] <;> iassumption
  isplitl [HO]; · iexact HO
  iintro ⟨Cl₀, HO⟩
  rw [wp_bind]
  iapply (wp_collect m σ K c .plane 2 (by decide) (wpE_semWait_eq 𝒱₀ (c : Thread nD τ) none Set.univ) (owedB c chunks)
    ((above_owedB c chunks).mono (by decide)))
  isplitr; · iexact HR
  isplitl [Cp]; · iexact Cp
  isplitl [Ap]; · unfold place; iexact Ap
  isplitl [HO]; · iexact HO
  iintro ⟨Hp, Zp, HO⟩
  ihave Hp := (planePay_in m σ c) $$ Hp
  icases Hp with ⟨Hd₁, Hd₂, Hd₃⟩
  rw [wp_bind]
  iapply (wp_chunks (records m σ K) c _ (preB c) (postB c) (owedB c)
    (fun j l Q => wp_phaseB m σ K c j (owedB c l) (above_owedB c l) Q))
  isplitr; · iexact HR
  isplitl [Hd₁ Hd₂ Tl₁ Tl₂ Ta₁ Ta₂ Ca₀ Aa₀]
  · unfold preB fanKit
    simp only [bigSep_sep']
    isplitl [Ca₀ Aa₀]
    · isplitl [Ca₀] <;> iassumption
    isplitl [Hd₁ Tl₁ Ta₁]
    · isplitl [Hd₁]; · iexact Hd₁
      isplitl [Tl₁] <;> iassumption
    isplitl [Hd₂]; · iexact Hd₂
    isplitl [Tl₂] <;> iassumption
  isplitl [HO]; · iexact HO
  iintro ⟨HB, HO⟩
  unfold postB
  simp only [bigSep_sep']
  icases HB with ⟨Za₀, Cl₁, Cl₂⟩
  ihave Hc := (Entails.of_eq (each_directions fun b j => (due c (.arrive (.fan b) j) : sProp 𝕄))) $$ [Ca₁ Ca₂]
  · isplitl [Ca₁] <;> iassumption
  icases Hc with ⟨Ce, Cn⟩
  ihave Hc := (Entails.of_eq (each_directions fun b j => (place c (.arrive (.fan b) j) : sProp 𝕄))) $$ [Aa₁ Aa₂]
  · isplitl [Aa₁] <;> iassumption
  icases Hc with ⟨Ae, An⟩
  rw [wp_bind]
  iapply (wp_chunks (records m σ K) c _ (preC c) (postC c) (owedC c)
    (fun j l Q => wp_phaseC m σ K c j (owedC c l) (above_owedC c l) Q))
  isplitr; · iexact HR
  isplitl [Ce Ae Hd₃ Tl₃ Ta₃]
  · unfold preC crossKit
    simp only [bigSep_sep']
    isplitl [Ce Ae]
    · isplitl [Ce] <;> iassumption
    isplitl [Hd₃]; · iexact Hd₃
    isplitl [Tl₃] <;> iassumption
  isplitl [HO]; · iexact HO
  iintro ⟨HC, HO⟩
  unfold postC
  simp only [bigSep_sep']
  icases HC with ⟨Ze, Cl₃⟩
  rw [wp_bind]
  iapply (wp_chunks (records m σ K) c _ (preD c) (postD m σ c) (fun _ => 0) (fun j l Q => wp_phaseD m σ K c j Q))
  isplitr; · iexact HR
  isplitl [Cn An Ca₃ Aa₃]
  · unfold preD
    simp only [bigSep_sep']
    isplitl [Cn An]
    · isplitl [Cn] <;> iassumption
    isplitl [Ca₃] <;> iassumption
  isplitl [HO]; · iexact HO
  iintro ⟨HD, HO⟩
  unfold postD
  simp only [bigSep_sep']
  icases HD with ⟨⟨Hn, Zn⟩, Hdg, Za₃⟩
  iapply (wp_chunks (records m σ K) c _ (preE c) (postE m σ c) (fun _ => 0) (fun j l Q => wp_phaseE m σ K c j Q))
  isplitr; · iexact HR
  isplitl [Cl₀ Al₀ Cl₁ Al₁ Cl₂ Al₂ Cl₃ Al₃]
  · unfold preE
    simp only [bigSep_sep']
    isplitl [Cl₀ Al₀]
    · isplitl [Cl₀]
      · unfold postA; iexact Cl₀
      iexact Al₀
    isplitl [Cl₁ Al₁]
    · isplitl [Cl₁] <;> iassumption
    isplitl [Cl₂ Al₂]
    · isplitl [Cl₂] <;> iassumption
    isplitl [Cl₃] <;> iassumption
  isplitl [HO]; · iexact HO
  iintro ⟨HE, HO⟩
  unfold postE
  simp only [bigSep_sep']
  icases HE with ⟨Hin, ⟨Hq, He⟩, Zl₀, Zl₁, Zl₂, Zl₃⟩
  ihave Hz := (Entails.of_eq (each_directions fun b j => (shut c (.arrive (.fan b) j) : sProp 𝕄)).symm) $$ [Ze Zn]
  · isplitl [Ze] <;> iassumption
  icases Hz with ⟨Za₁, Za₂⟩
  iapply Hk
  isplitr [HO]
  · unfold coreOut fullSlab cells legs
    rw [slab_sorted (quarter c)]
    simp only [bigSep_sep']
    isplitl [Hin]; · iexact Hin
    isplitl [Hq He Hn Hdg]
    · isplitl [Hq]; · iexact Hq
      isplitl [He]; · iexact He
      isplitl [Hn] <;> iassumption
    isplitl [Zb]; · unfold shut; iexact Zb
    isplitl [Zp]; · unfold shut; iexact Zp
    isplitl [Zl₀ Zl₁ Zl₂ Zl₃]
    · isplitl [Zl₀]; · iexact Zl₀
      isplitl [Zl₁]; · iexact Zl₁
      isplitl [Zl₂] <;> iassumption
    isplitl [Za₀]; · iexact Za₀
    isplitl [Za₁]; · iexact Za₁
    isplitl [Za₂] <;> iassumption
  iexact HO

end Cert.Shards

end
-- ==== Proof.Body.lean ====
/- The body of the kernel as the pipeline calls it: the words of the table are read, the checks hold, and the core runs on
   the staged input and result. -/
module

public import proofs.«01_k».proof.Proof.Core
public import Idealize.ShloMosaic.Lib.Ring

@[expose] public section

noncomputable section

namespace Cert.Shards

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (σ : Equiv.Perm (Fin 4))

/-! ## The table -/

/-- Place `z` of the table. -/
def place4 (z : Fin 4) : S4.Idx := fun a => ⟨z.val, by fin_cases a; exact z.isLt⟩

/-- Every device's table is the permutation `σ`. -/
def TableIs : Prop := ∀ (c : Dev nD) (z : Fin 4), (m ((c : Thread nD τ).loc main_arg1) : IVec S4 32) (place4 z) = word (σ z)

/-- A device's table as staged. -/
def tableOf (c : Dev nD) : (cc0_stg0_0 : Ref sig .tc).ty.Contents (Elt F) :=
  (win0_0.blk (0 : Fin 1)).view.read (Elt F) (m ((c : Thread nD τ).loc main_arg1))

abbrev tM : Memref sig .tc .smem S4 .i32 := Memref.whole cc0_stg0_0

/-- The word that a load of one place gives. -/
abbrev wordRead (o : Fin 1 → ℕ) (h : ∀ a, o a + S1.size a ≤ S4.size a) (t : (cc0_stg0_0 : Ref sig .tc).ty.Contents (Elt F)) : BitVec 32 :=
  ((Memref.whole cc0_stg0_0).access (Rect.unit (s := S4) o S1.size h) : View sig .tc _ _ _).read (Elt F) t
    (Shape.Idx.first (s := S1) (numel1_S1.symm ▸ Nat.one_pos))

/-- A load at offset `z` of the staged table is the table's word there. -/
theorem wordRead_table (hσ : TableIs m σ) (c : Dev nD) (z : Fin 4) (o : Fin 1 → ℕ) (ho : o 0 = z.val) (h) :
    wordRead o h (tableOf m c) = word (σ z) := by
  rw [← hσ c z]
  obtain rfl : o = fun _ => z.val := funext fun a => by rw [Subsingleton.elim a 0, ho]
  show (m ((c : Thread nD τ).loc main_arg1) : IVec S4 32) _ = _
  refine congrArg _ (funext fun a => Fin.ext ?_)
  fin_cases a; fin_cases z <;> rfl

theorem off1_slab (c : Dev nD) : k0_off1 c 0 = (slab c).val := by revert c; decide +kernel

/-! ## What the pipeline gives and takes -/

/-- A device's share of the protocol: the records, the tokens it pays with, its places and its credits. -/
def start (c : Dev nD) : sProp 𝕄 := iprop((∃ K, records m σ K ∗ payToks σ c ∗ cells (place c)) ∗ credits c)

/-- The staged buffers: the table and the input as they were, the result delivered. -/
def dats (_ : Fin 1) (c : Dev nD) : Dat τ (Elt F) Unit ℕ UU ℕ cfg0 c where
  A w := m ((cfg0.win w).arr.view.loc (c : Thread nD τ))
  after w _ := match w with
    | ⟨0, _⟩ => tableOf m c
    | ⟨1, _⟩ => slabOf m c
    | ⟨2, _⟩ => gathered m σ c
  Φ t := match t with
    | ⟨0, _⟩ => start m σ c
    | ⟨_ + 1, _⟩ => cells (shut c)
  q _ := fullShare
  owed t := match t with
    | ⟨0, _⟩ => O₀ σ c
    | ⟨_ + 1, _⟩ => 0

/-- A staged buffer held whole, named contents. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

/-- The places of the table that the body reads. -/
abbrev placeOf (o : Fin 1 → ℕ) (h : ∀ a, o a + S1.size a ≤ S4.size a) := Rect.unit (s := S4) o S1.size h

theorem fetch_table (t : Fin cfg0.N) : (cfg0.win (0 : Fin 3)).fetch t = true := by rw [fin_N0 t]; rfl
theorem fetch_input (t : Fin cfg0.N) : (cfg0.win (1 : Fin 3)).fetch t = true := by rw [fin_N0 t]; rfl

theorem result_chunks (c : Dev nD) (f : (cc0_stg2_0 : Ref sig .tc).ty.Contents (Elt F)) :
    (((c : Thread nD τ).loc cc0_stg2_0) ↦{fullShare} f : sProp 𝕄) = bigSep Finset.univ fun p : Fin 4 × Fin 16 => outPts c p.1 p.2 fullShare f :=
  Ring.pointsTo_blocks (ℓ := (c : Thread nD τ).loc cc0_stg2_0) (fun p : Fin 4 × Fin 16 => rowSet p.1 p.2) rowSet_disjoint rowSet_cover f
theorem input_chunks (c : Dev nD) :
    (((c : Thread nD τ).loc cc0_stg1_0) ↦{fullShare} slabOf m c : sProp 𝕄) = bigSep Finset.univ fun p : Fin 4 × Fin 16 => inPts m c p.1 p.2 :=
  Ring.pointsTo_blocks (ℓ := (c : Thread nD τ).loc cc0_stg1_0) (fun p : Fin 4 × Fin 16 => rowSet p.1 p.2) rowSet_disjoint rowSet_cover (slabOf m c)

theorem result_free (c : Dev nD) (f : (cc0_stg2_0 : Ref sig .tc).ty.Contents (Elt F)) :
    (((c : Thread nD τ).loc cc0_stg2_0) ↦{fullShare} f : sProp 𝕄) ⊢ freeSlab c := by
  rw [result_chunks]
  unfold freeSlab freeOut
  exact bigSep_mono fun p _ => BIClass.exists_intro (Φ := fun g => outPts c p.1 p.2 fullShare g) f

/-- The core with the whole staged buffers around it. -/
theorem wp_afterTable (K : Dev nD × Cell → ℕ) (c : Dev nD) (v v0 v1 v2 v3 : BitVec 32) (e : v = word (σ (slab c)))
    (e0 : v0 = word (σ 0)) (e1 : v1 = word (σ 1)) (e2 : v2 = word (σ 2)) (e3 : v3 = word (σ 3)) (hv : k0_chk2 c v) (hs : k0_chk1 c v0 v1 v2 v3)
    (f : (cc0_stg2_0 : Ref sig .tc).ty.Contents (Elt F)) (Q : PUnit → sProp 𝕄) :
    iprop(records m σ K ∗ payToks σ c ∗ cells (place c) ∗ credits c ∗ owed c (O₀ σ c)
        ∗ (((c : Thread nD τ).loc cc0_stg1_0) ↦{fullShare} slabOf m c) ∗ (((c : Thread nD τ).loc cc0_stg2_0) ↦{fullShare} f)
        ∗ ((cells (shut c) ∗ owed c 0 ∗ (((c : Thread nD τ).loc cc0_stg1_0) ↦{fullShare} slabOf m c)
            ∗ (((c : Thread nD τ).loc cc0_stg2_0) ↦{fullShare} gathered m σ c)) -∗ Q ⟨⟩))
      ⊢ WP c (afterTable xM oM cc0_scratch0 cc0_scratch1 cc0_scratch2 cc0_scratch3 cc0_scratch4 cc0_scratch5 cc0_scratch6 cc0_scratch7
          cc0_scratch8 c v v0 v1 v2 v3 hv hs) Q := by
  subst e e0 e1 e2 e3
  rw [input_chunks, slab_sorted (quarter c)]
  iintro ⟨HR, Ht, Hat, Hc, HO, ⟨Hin, Hin'⟩, Hout, Hk⟩
  iapply (wp_core m σ K c hv hs Q)
  isplitl [HR]; · iexact HR
  isplitl [Ht Hat Hc Hin Hout]
  · unfold coreIn
    isplitl [Hin]; · iexact Hin
    isplitl [Hout]; · iapply (result_free c f); iexact Hout
    isplitl [Ht]; · iexact Ht
    isplitl [Hat] <;> iassumption
  isplitl [HO]; · iexact HO
  unfold coreOut
  iintro ⟨⟨Hin, Hfull, Hz⟩, HO⟩
  iapply Hk
  isplitl [Hz]; · iexact Hz
  isplitl [HO]; · iexact HO
  isplitl [Hin Hin']
  · isplitl [Hin] <;> iassumption
  iapply (show fullSlab m σ c ⊢ _ from Entails.of_eq (result_chunks c (gathered m σ c)).symm)
  iexact Hfull

/-! ## The whole body -/

def bodyPre (c : Dev nD) : sProp 𝕄 :=
  iprop(start m σ c ∗ (dats m σ 0 c).owesAt () t0_0.castSucc
    ∗ (∃ d, staged c cc0_stg0_0 ((dats m σ 0 c).before (0 : Fin 3) t0_0 d))
    ∗ (∃ d, staged c cc0_stg1_0 ((dats m σ 0 c).before (1 : Fin 3) t0_0 d))
    ∗ (∃ d, staged c cc0_stg2_0 ((dats m σ 0 c).before (2 : Fin 3) t0_0 d)))
def bodyPost (c : Dev nD) : sProp 𝕄 :=
  iprop(cells (shut c) ∗ (dats m σ 0 c).owesAt () t0_0.succ ∗ staged c cc0_stg0_0 (tableOf m c) ∗ staged c cc0_stg1_0 (slabOf m c)
    ∗ staged c cc0_stg2_0 (gathered m σ c))

set_option maxHeartbeats 1000000 in
theorem wp_body (hσ : TableIs m σ) (c : Dev nD) (Kt : PUnit → sProp 𝕄) :
    iprop(bodyPre m σ c ∗ (bodyPost m σ c -∗ Kt ⟨⟩))
      ⊢ wp frame (wpE (defs₀ (F := F)) 𝒱₀ c none) Set.univ
          (loopBody tM xM oM cc0_scratch0 cc0_scratch1 cc0_scratch2 cc0_scratch3 cc0_scratch4 cc0_scratch5 cc0_scratch6 cc0_scratch7
            cc0_scratch8) Kt := by
  have w := wordRead_table m σ hσ c
  have h2 : k0_chk2 c (wordRead (k0_off1 c) (k0_off1_inb c) (tableOf m c)) := by rw [w (slab c) _ (off1_slab c)]; exact chk2_word c _
  have h1 := k0_chk1_all
  unfold loopBody bodyPre start
  simp only [smemLoad, smemLoadElt, Prog.lift, Prog.bind_op, Prog.bind_ret, Prog.pure_eq_ret, Prog.bind_assoc, wp_deviceId]
  iintro ⟨⟨⟨⟨%K, #HR, Hrest⟩, Hc⟩, Ho, ⟨%d0, %g0, %hg0, Ht⟩, ⟨%d1, %g1, %hg1, Hx⟩, ⟨%d2, %g2, %hg2, Hout⟩⟩, Hk⟩
  have ht : g0 = tableOf m c := by rw [hg0]; unfold Dat.before; rw [if_pos (fetch_table t0_0)]; rfl
  subst ht
  have hx : g1 = slabOf m c := by rw [hg1]; unfold Dat.before; rw [if_pos (fetch_input t0_0)]; rfl
  subst hx
  unfold Dat.owesAt Pipeline.owesWithin
  icases Ho with ⟨%W, %hW, HO⟩
  rw [show (dats m σ 0 c).owed t0_0.castSucc = O₀ σ c from rfl]
  iapply (wp_load_rect 𝒱₀ (c : Thread nD τ) none Set.univ (m := tM) (r := placeOf (k0_off1 c) (k0_off1_inb c)) (Finset.subset_univ _)) $$ Ht; iintro Ht
  simp only [wp_assume_of _ _ _ _ (d := k0_chk2.dec _ _) h2]
  iapply (wp_load_rect 𝒱₀ (c : Thread nD τ) none Set.univ (m := tM) (r := placeOf ![0] inb_S4_S1_0) (Finset.subset_univ _)) $$ Ht; iintro Ht
  iapply (wp_load_rect 𝒱₀ (c : Thread nD τ) none Set.univ (m := tM) (r := placeOf ![1] inb_S4_S1_1) (Finset.subset_univ _)) $$ Ht; iintro Ht
  iapply (wp_load_rect 𝒱₀ (c : Thread nD τ) none Set.univ (m := tM) (r := placeOf ![2] inb_S4_S1_2) (Finset.subset_univ _)) $$ Ht; iintro Ht
  iapply (wp_load_rect 𝒱₀ (c : Thread nD τ) none Set.univ (m := tM) (r := placeOf ![3] inb_S4_S1_3) (Finset.subset_univ _)) $$ Ht; iintro Ht
  simp only [wp_assume_of _ _ _ _ (d := k0_chk1.dec _ _ _ _ _) (h1 _ _ _ _ _)]
  icases Hrest with ⟨Hpay, Hat⟩
  iapply (wp_afterTable m σ K c _ _ _ _ _ (w (slab c) _ (off1_slab c) _) (w 0 _ rfl _) (w 1 _ rfl _) (w 2 _ rfl _) (w 3 _ rfl _) _ _ g2)
  isplitr; · iexact HR
  isplitl [Hpay]; · iexact Hpay
  isplitl [Hat]; · iexact Hat
  isplitl [Hc]; · iexact Hc
  isplitl [HO]; · unfold owed; iexists W; iexact HO
  isplitl [Hx]; · iexact Hx
  isplitl [Hout]; · iexact Hout
  unfold owed
  iintro ⟨Hz, ⟨%W', HO⟩, Hx, Hout⟩
  iapply Hk
  unfold bodyPost
  isplitl [Hz]; · iexact Hz
  isplitl [HO]
  · unfold Dat.owesAt Pipeline.owesWithin
    iexists W'
    isplitr; · ipureintro; exact fun _ _ => Or.inl trivial
    iexact HO
  isplitl [Ht]; · iexists (tableOf m c); isplitr; · ipureintro; rfl
                  iexact Ht
  isplitl [Hx]; · iexists (slabOf m c); isplitr; · ipureintro; rfl
                  iexact Hx
  iexists (gathered m σ c); isplitr; · ipureintro; rfl
  iexact Hout

set_option maxRecDepth 20000 in
/-- The pipeline's obligation for the body. -/
theorem body_obligation (hσ : TableIs m σ) (c : Dev nD) :
    BodyObligation (dats (F := F) m σ 0 c) (defs₀ (F := F)) 𝒱₀ () Set.univ := fun t => by
  rw [fin_N0 t, bigSep_W0, bigSep_W0]
  simp only [owns_staged]
  show bodyPre m σ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) cc0_scratch0 cc0_scratch1 cc0_scratch2 cc0_scratch3 cc0_scratch4 cc0_scratch5
      cc0_scratch6 cc0_scratch7 cc0_scratch8) (fun _ => bodyPost m σ c)
  rw [body_loops]
  refine BI.BIBase.Entails.trans ?_ (wp_body m σ hσ c fun _ => bodyPost m σ c)
  iintro H
  isplitl [H]; · iexact H
  iintro H; iexact H

end Cert.Shards

end
-- ==== Proof.Deal.lean ====
/- What the launch mints, dealt to the devices: every cell's tokens go to the devices that pay it, and what the devices owe
   each other comes back as the credits with which they wait. -/
module

public import proofs.«01_k».proof.Proof.Core
public import Idealize.ShloMosaic.Lib.Pipeline.Launch

@[expose] public section

noncomputable section

namespace Cert.Shards

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Equiv.Perm (Fin 4))

/-! ## The tokens -/

/-- Sending a slab's quarter to its destination, as a permutation of the devices. -/
def hops : Equiv.Perm (Dev nD) := ⟨dst σ, src σ, src_dst σ, dst_src σ⟩
/-- Swapping neighbours. -/
def swap (b : Bool) : Equiv.Perm (Dev nD) := ⟨nb b, nb b, nb_nb b, nb_nb b⟩

/-- The tokens of a device's own cells: one for every cell, and the plane's second. -/
def ownToks (c : Dev nD) : sProp 𝕄 := iprop(cells (fun x => tok c x false) ∗ tok c .plane true)

/-- The tokens of all cells are the tokens of all payments. -/
theorem toks_dealt : (bigSep Finset.univ fun c : Dev nD => (ownToks c : sProp 𝕄)) ⊢ bigSep Finset.univ fun c : Dev nD => payToks σ c := by
  have hb := bigSep_univ_equiv (hops σ).symm fun c : Dev nD => (tok c .bar false : sProp 𝕄)
  have hx := bigSep_univ_equiv (swap false) fun c : Dev nD => (tok c .plane false : sProp 𝕄)
  have hy := bigSep_univ_equiv (swap true) fun c : Dev nD => (tok c .plane true : sProp 𝕄)
  have h0 := bigSep_univ_equiv (hops σ) fun c : Dev nD => (each fun j => tok c (.arrive .hop j) false : sProp 𝕄)
  have h1 := bigSep_univ_equiv (swap false) fun c : Dev nD => (each fun j => tok c (.arrive (.fan false) j) false : sProp 𝕄)
  have h2 := bigSep_univ_equiv (swap true) fun c : Dev nD => (each fun j => tok c (.arrive (.fan true) j) false : sProp 𝕄)
  have h3 : (bigSep Finset.univ fun c : Dev nD => (each fun j => tok c (.arrive .cross j) false : sProp 𝕄))
      = bigSep Finset.univ fun c : Dev nD => each fun j => tok (nb (!isEven j) c) (.arrive .cross j) false := by
    unfold each
    rw [bigSep_univ_comm, bigSep_congr fun j _ => bigSep_univ_equiv (swap (!isEven j)) fun c : Dev nD => (tok c (.arrive .cross j) false : sProp 𝕄),
      bigSep_univ_comm]
    rfl
  unfold ownToks payToks cells legs
  simp only [bigSep_sep']
  simp only [each] at h0 h1 h2 h3 ⊢
  rw [hb, hx, hy, h0, h1, h2, h3]
  iintro ⟨⟨Hb, Hx, Hl, H0, H1, H2, H3⟩, Hy⟩
  isplitl [Hb Hx Hy]
  · isplitl [Hb]; · iexact Hb
    isplitl [Hx]; · iexact Hx
    iexact Hy
  isplitl [Hl]; · iexact Hl
  isplitl [H0]; · iexact H0
  isplitl [H1]; · iexact H1
  isplitl [H2]; · iexact H2
  iexact H3

/-! ## The credits -/

open Idealize.ShloMosaic.Pipeline (launchCred launchCred_add launchCred_zero launchCred_tallyAt)

/-- Every device owing to its place under a permutation, each is owed as much. -/
theorem owed_around (e : Equiv.Perm (Dev nD)) (x : Cell) (n : ℕ) (c : Dev nD) :
    (launchCred (fun d => tallyAt (cell (e d) x) () n) c : sProp 𝕄) ⊢ cred (tallyAt (cell c x) () n) :=
  launchCred_tallyAt (semOf x) e e.symm e.apply_symm_apply e.symm_apply_apply () n c

/-- The credit of the debts of a loop over chunks, chunk by chunk. -/
theorem launchCred_owing (t : Dev nD → Fin 16 → CellTallies nD τ sig Unit) (O : Dev nD → CellTallies nD τ sig Unit) (c : Dev nD) :
    ∀ l, (launchCred (fun d => owing (t d) (O d) l) c : sProp 𝕄)
      ⊢ iprop((bigSepL l fun j => launchCred (fun d => t d j) c) ∗ launchCred O c)
  | [] => Entails.of_eq (equiv_iff.mp BI.emp_sep).symm
  | j :: l => by
    rw [show (fun d => owing (t d) (O d) (j :: l)) = fun d => owing (t d) (O d) l + t d j from rfl, launchCred_add]
    have ih := launchCred_owing t O c l
    rw [show bigSepL (j :: l) (fun j => (launchCred (fun d => t d j) c : sProp 𝕄))
      = iprop(launchCred (fun d => t d j) c ∗ bigSepL l fun j => launchCred (fun d => t d j) c) from bigSepL_cons _ _ _]
    iintro ⟨H, Hj⟩
    ihave H := ih $$ H
    icases H with ⟨Hl, HO⟩
    isplitl [Hj Hl]
    · isplitl [Hj] <;> iassumption
    iexact HO

theorem launchCred_chunks (t : Dev nD → Fin 16 → CellTallies nD τ sig Unit) (O : Dev nD → CellTallies nD τ sig Unit) (c : Dev nD)
    {Φ : Fin 16 → sProp 𝕄} (h : ∀ j, (launchCred (fun d => t d j) c : sProp 𝕄) ⊢ Φ j) :
    (launchCred (fun d => owing (t d) (O d) chunks) c : sProp 𝕄) ⊢ iprop(each Φ ∗ launchCred O c) := by
  refine (launchCred_owing t O c chunks).trans (sep_mono_left ?_)
  rw [← bigSep_univ_eq_bigSepL chunks (by decide) (by decide)]
  exact bigSep_mono fun j _ => h j

/-- What the devices owe each other comes to the credits of their waits. -/
theorem credits_dealt (c : Dev nD) : (launchCred (O₀ σ) c : sProp 𝕄) ⊢ credits c := by
  have hC : (launchCred (fun d => owedC d chunks) c : sProp 𝕄) ⊢ iprop(each (fun j => due c (.arrive .cross j)) ∗ launchCred (fun _ => 0) c) :=
    launchCred_chunks debtC (fun _ => 0) c fun j => owed_around (swap (!isEven j)) (.arrive .cross j) N c
  have hB : (launchCred (fun d => owedB d chunks) c : sProp 𝕄)
      ⊢ iprop(each (fun j => iprop(due c (.arrive (.fan true) j) ∗ due c (.arrive (.fan false) j))) ∗ launchCred (fun d => owedC d chunks) c) :=
    launchCred_chunks debtB (fun d => owedC d chunks) c fun j => by
      rw [show (fun d => debtB d j) = fun d => tallyAt (cell (nb true d) (.arrive (.fan true) j)) () N
        + tallyAt (cell (nb false d) (.arrive (.fan false) j)) () N from rfl, launchCred_add]
      exact BI.sep_mono (owed_around (swap true) (.arrive (.fan true) j) N c) (owed_around (swap false) (.arrive (.fan false) j) N c)
  have hA : (launchCred (fun d => owedA σ d chunks) c : sProp 𝕄)
      ⊢ iprop(each (fun j => due c (.arrive .hop j)) ∗ launchCred (fun d => owedB d chunks) c) :=
    launchCred_chunks (debtA σ) (fun d => owedB d chunks) c fun j => owed_around (hops σ) (.arrive .hop j) N c
  have hb : (launchCred (fun d => tallyAt (cell (src σ d) .bar) () 1) c : sProp 𝕄) ⊢ cred (tallyAt (cell c .bar) () 1) :=
    owed_around (hops σ).symm .bar 1 c
  have hp : ∀ b, (launchCred (fun d => tallyAt (cell (nb b d) .plane) () 1) c : sProp 𝕄) ⊢ cred (tallyAt (cell c .plane) () 1) :=
    fun b => owed_around (swap b) .plane 1 c
  rw [show O₀ σ = fun d => ((owedA σ d chunks + tallyAt (cell (nb true d) .plane) () 1) + tallyAt (cell (nb false d) .plane) () 1)
      + tallyAt (cell (src σ d) .bar) () 1 from rfl, launchCred_add, launchCred_add, launchCred_add]
  unfold credits legs
  simp only [bigSep_sep']
  iintro ⟨⟨⟨HA, Hy⟩, Hx⟩, Hb⟩
  ihave HA := hA $$ HA
  icases HA with ⟨H0, HB⟩
  ihave HB := hB $$ HB
  simp only [bigSep_sep']
  icases HB with ⟨⟨H2, H1⟩, HC⟩
  ihave HC := hC $$ HC
  icases HC with ⟨H3, -⟩
  ihave Hb := hb $$ Hb
  ihave Hx := hp false $$ Hx
  ihave Hy := hp true $$ Hy
  isplitl [Hb]; · iexact Hb
  isplitl [Hx Hy]
  · rw [show (2 : ℕ) = 1 + 1 from rfl, ← tallyAt_add]
    iapply (cred_add _ _).2
    isplitl [Hx] <;> iassumption
  isplitl [H0]; · iexact H0
  isplitl [H1]; · iexact H1
  isplitl [H2] <;> iassumption

end Cert.Shards

end
-- ==== Proof.Launch.lean ====
/- The launch: the sixteen devices start with zero counters, every cell is put under its invariant, tokens and credits are
   dealt, and the run of the program follows from the body's. -/
module

public import proofs.«01_k».proof.Proof.Body
public import proofs.«01_k».proof.Proof.Deal
public import Idealize.ShloMosaic.Lib.Pipeline.Kit
public import Idealize.ShloMosaic.Lib.Pipeline.CollectiveSegs

@[expose] public section

noncomputable section

namespace Cert.Shards

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg) (σ : Equiv.Perm (Fin 4))

/-! ## The kernel's own semaphores -/

/-- The cells on the kernel's own semaphores: all but the barrier. -/
abbrev Own : Type := {x : Cell // x ≠ .bar}
abbrev osem (x : Own) : SemLoc sig := semOf x.1

theorem stage_apart : ∀ (w : Fin 3) (s : Fin (spec0 w).nbuf), cellAt (.dma ((spec0 w).sem s)) = none := by decide

theorem dma_scoped : ∀ s : DmaSem sig, (SemLoc.dma s).isScoped .tc = true := by decide
theorem plane_scoped : (semOf .plane).isScoped .tc = true := by decide

theorem ownSemFacts : Pipeline.OwnSemFacts cfg0.spec osem where
  isScoped := fun ⟨x, hx⟩ => by
    cases x with
    | bar => exact absurd rfl hx
    | plane => exact plane_scoped
    | leave l j => exact dma_scoped _
    | arrive l j => exact dma_scoped _
  inj := fun x y h => Subtype.ext (semOf_injective h)
  disj := fun x w s h => by
    have h1 := cellAt_semOf x.1
    rw [show semOf x.1 = _ from h, stage_apart w s] at h1
    cases h1

/-- The semaphores of a device at zero: its own and the barrier. -/
theorem zero_cells (c : Dev nD) :
    (iprop(Pipeline.ownSems0 (Ix := Unit) (Name := ℕ) (U := UU) (Lvl := ℕ) (Val := Elt F) (τ := τ) osem c ∗ unscopedSems0 c) : sProp 𝕄)
      = bigSep Finset.univ fun x : Cell => shut c x := by
  have hu : (unscopedSems0 c : sProp 𝕄) = shut c .bar := by
    unfold unscopedSems0; rw [bigSep_eq_bigSepL_of_eq [SemLoc.reg barS] (by decide) (by decide)]; rfl
  have ho : (Pipeline.ownSems0 (Ix := Unit) (Name := ℕ) (U := UU) (Lvl := ℕ) (Val := Elt F) (τ := τ) osem c : sProp 𝕄)
      = bigSep (Finset.univ.erase Cell.bar) fun x => shut c x := bigSep_subtype_ne Cell.bar fun x => (shut c x : sProp 𝕄)
  rw [hu, ho, bigSep_univ_at _ Cell.bar]
  exact equiv_iff.mp ⟨BI.sep_comm, BI.sep_comm⟩

/-! ## What is minted -/

def cellOfPair (p : Dev nD × Cell) : GSem nD τ sig := cell p.1 p.2
theorem cellOfPair_injective : Function.Injective (cellOfPair : Dev nD × Cell → GSem nD τ sig) := fun p q h =>
  Prod.ext (cell_inj h).1 (cell_inj h).2
def myCells : Finset (GSem nD τ sig) := Finset.univ.map ⟨cellOfPair, cellOfPair_injective⟩

/-- Every cell has one duty, and the plane's a second. -/
def duty : Cell ⊕ Unit → Cell × Bool
  | .inl x => (x, false)
  | .inr _ => (.plane, true)
theorem duty_injective : Function.Injective duty := by
  rintro (x | u) (y | v) h
  · exact congrArg Sum.inl (congrArg Prod.fst h)
  · exact absurd (congrArg Prod.snd h) Bool.false_ne_true
  · exact absurd (congrArg Prod.snd h).symm Bool.false_ne_true
  · rfl
def tokOf (p : Dev nD × (Cell ⊕ Unit)) : GSem nD τ sig × ℕ × Bool := (cell p.1 (duty p.2).1, 0, (duty p.2).2)
theorem tokOf_injective : Function.Injective (tokOf : Dev nD × (Cell ⊕ Unit) → GSem nD τ sig × ℕ × Bool) := fun p q h => by
  have h1 := cell_inj (congrArg Prod.fst h)
  have h2 : (duty p.2).2 = (duty q.2).2 := congrArg (fun t : GSem nD τ sig × ℕ × Bool => t.2.2) h
  exact Prod.ext h1.1 (duty_injective (Prod.ext h1.2 h2))
def myToks : Finset (GSem nD τ sig × ℕ × Bool) := Finset.univ.map ⟨tokOf, tokOf_injective⟩

def u₀ : UU :=
  (initOf (Pipeline.cells cfgs cellOf_inj) (Pipeline.launchToks cfgs cellOf_inj), initOf myCells myToks)

/-- What each device is given: its cells' rounds, its places there, that the rounds have begun, its cells' tokens. -/
def given (c : Dev nD) : sProp 𝕄 :=
  iprop((bigSep Finset.univ fun x : Cell => roundState ER (sched m σ) (cell c x) 0)
    ∗ (bigSep Finset.univ fun x : Cell => place c x) ∗ (bigSep Finset.univ fun x : Cell => reached ER (cell c x) 0) ∗ ownToks c)

/-- What it holds once all cells are under their invariants. -/
def dealt (c : Dev nD) : sProp 𝕄 :=
  iprop(∃ K : Dev nD × Cell → ℕ, ((bigSep Finset.univ fun p : Dev nD × Cell => cellInv ER (sched m σ) (K p) (cell p.1 p.2))
      ∗ bigSep Finset.univ fun p : Dev nD × Cell => reached ER (cell p.1 p.2) 0) ∗ payToks σ c ∗ cells (place c))

theorem fund_cells : BI.own (ER (initOf myCells myToks)) ⊢ (|==> bigSep Finset.univ (given m σ) : sProp 𝕄) := by
  have hX (Φ : GSem nD τ sig → sProp 𝕄) : bigSep myCells Φ = bigSep Finset.univ fun c : Dev nD => bigSep Finset.univ fun x : Cell => Φ (cell c x) := by
    unfold myCells; rw [bigSep_map, bigSep_univ_prod]; rfl
  have hT : bigSep myToks (fun t => (dutyTok ER t.1 t.2.1 t.2.2 : sProp 𝕄)) = bigSep Finset.univ fun c : Dev nD => ownToks c := by
    unfold myToks; rw [bigSep_map, bigSep_univ_prod]
    refine bigSep_congr fun c _ => ?_
    unfold ownToks
    rw [bigSep_univ_sum, ← bigSep_cells, bigSep_univ_eq_bigSepL [()] (by decide) (by decide)]
    rfl
  iintro HX
  imod (Rounds.fund ER (sched m σ) myCells myToks) $$ HX with ⟨Hst, Hr, Hat, Htok⟩
  imodintro
  ihave Hst := (Entails.of_eq (hX fun g => roundState ER (sched m σ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold given place; simp only [bigSep_sep']
  isplitl [Hst]; · iexact Hst
  isplitl [Hat]; · iexact Hat
  isplitl [Hr] <;> iassumption

/-- A device's cells go under their invariants. -/
theorem alloc_cells (c : Dev nD) :
    iprop(Pipeline.ownSems0 (Ix := Unit) (Name := ℕ) (U := UU) (Lvl := ℕ) (Val := Elt F) (τ := τ) osem c ∗ unscopedSems0 c ∗ given m σ c)
      ⊢ |={Set.univ}=> iprop((bigSep Finset.univ fun x : Cell => iprop(∃ κ : ℕ, cellInv ER (sched m σ) κ (cell c x)))
          ∗ (bigSep Finset.univ fun x : Cell => place c x) ∗ (bigSep Finset.univ fun x : Cell => reached ER (cell c x) 0) ∗ ownToks c) := by
  unfold given
  iintro ⟨Hos, Hus, Hst, Hat, Hr, Htok⟩
  ihave Hv := (Entails.of_eq (zero_cells (F := F) c)) $$ [Hos Hus]
  · isplitl [Hos] <;> iassumption
  imod (show iprop((bigSep Finset.univ fun x : Cell => shut c x) ∗ bigSep Finset.univ fun x : Cell => roundState ER (sched m σ) (cell c x) 0)
      ⊢ (|={Set.univ}=> bigSep Finset.univ fun x : Cell => iprop(∃ κ : ℕ, cellInv ER (sched m σ) κ (cell c x)) : sProp 𝕄) from by
        rw [← bigSep_sep']
        exact (bigSep_mono fun x _ => (Rounds.body_intro ER (sched m σ) (cell c x)).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- All invariants and begun rounds are shared, and the tokens go to the payers. -/
theorem deal_all :
    (bigSep Finset.univ fun c : Dev nD => iprop((bigSep Finset.univ fun x : Cell => iprop(∃ κ : ℕ, cellInv ER (sched m σ) κ (cell c x)))
          ∗ (bigSep Finset.univ fun x : Cell => place c x) ∗ (bigSep Finset.univ fun x : Cell => reached ER (cell c x) 0) ∗ ownToks c) : sProp 𝕄)
      ⊢ bigSep Finset.univ (dealt m σ) := by
  simp only [bigSep_sep']
  rw [← bigSep_univ_prod (fun p : Dev nD × Cell => iprop(∃ κ : ℕ, cellInv ER (sched m σ) κ (cell p.1 p.2))),
    ← bigSep_univ_prod (fun p : Dev nD × Cell => (reached ER (cell p.1 p.2) 0 : sProp 𝕄))]
  iintro ⟨HI, Hat, #HR, Htok⟩
  ihave HK := (BI.bigSep_exists_pi Finset.univ (fun (p : Dev nD × Cell) (κ : ℕ) => (cellInv ER (sched m σ) κ (cell p.1 p.2) : sProp 𝕄))) $$ HI
  icases HK with ⟨%K, #HI⟩
  ihave Htk := (toks_dealt (F := F) σ) $$ Htok
  iapply (bigSep_with_persistent
    (R := iprop((bigSep Finset.univ fun p : Dev nD × Cell => cellInv ER (sched m σ) (K p) (cell p.1 p.2))
      ∗ bigSep Finset.univ fun p : Dev nD × Cell => reached ER (cell p.1 p.2) 0))
    (Φ := fun c : Dev nD => iprop(payToks σ c ∗ bigSep Finset.univ fun x : Cell => place c x)) fun c _ => by
      rw [bigSep_cells]
      unfold dealt
      iintro ⟨H, H'⟩
      iexists K
      isplitl [H] <;> iassumption)
  isplitr
  · isplitl; · iexact HI
    iexact HR
  rw [bigSep_sep']
  isplitl [Htk] <;> iassumption

theorem glob : (bigSep Finset.univ fun c => iprop(Pipeline.ownSems0 (Ix := Unit) (Name := ℕ) (U := UU) (Lvl := ℕ) (Val := Elt F) (τ := τ) osem c
      ∗ unscopedSems0 c ∗ given m σ c) : sProp 𝕄) ⊢ |={Set.univ}=> bigSep Finset.univ (dealt m σ) :=
  ((bigSep_mono fun c _ => alloc_cells m σ c).trans (bigSep_fupd _ _)).trans (BI.fupd_mono (deal_all m σ))

/-! ## The launch's side conditions -/

theorem start_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ dealt m σ c)
      ⊢ |={Set.univ}=> iprop(start m σ c ∗ emp) := by
  iintro ⟨-, #Hlev, Hcr, -, HG⟩
  ihave Hc := (credits_dealt (F := F) σ c) $$ Hcr
  imodintro
  unfold start dealt records
  icases HG with ⟨%K, ⟨HI, HR⟩, Hrest⟩
  isplitl
  · isplitr [Hc]
    · iexists K
      isplitl [HI HR]
      · isplitl [HI]; · iexact HI
        isplitl [HR]; · iexact HR
        iexact Hlev
      iexact Hrest
    iexact Hc
  · iempintro

theorem phi0_intro (c : Dev nD) :
    iprop(start m σ c ∗ Pipeline.prefHeld Pipeline.Prefetch.none c (fun _ => fullShare.right) (fun k => k.elim0) ∗ Pipeline.scopedRest cfg0.spec c)
      ⊢ (dats m σ 0 c).Φ 0 := by
  rw [show (dats m σ 0 c).Φ 0 = start m σ c from rfl]
  iintro ⟨Hs, -, -⟩
  iexact Hs

theorem phi1_exit (c : Dev nD) :
    (dats m σ 0 c).Φ (Fin.last cfg0.N) ⊢ iprop(unscopedSems0 c ∗ Pipeline.ownSems0 osem c ∗ Pipeline.scopedRest cfg0.spec c) := by
  rw [show (dats m σ 0 c).Φ (Fin.last cfg0.N) = cells (shut c) from rfl, scopedRest0_eq, ← bigSep_cells, ← zero_cells]
  iintro ⟨Ho, Hu⟩
  isplitl [Hu]; · iexact Hu
  isplitl [Ho]; · iexact Ho
  iempintro

theorem above_O₀ (c : Dev nD) : Above 0 (O₀ σ c) :=
  ((((above_owedA σ c chunks).mono (by decide)).add (Above.cell _ _ _ (by decide))).add (Above.cell _ _ _ (by decide))).add
    (Above.cell _ _ _ (by decide))

theorem waits (c : Dev nD) : (levAts L lv : sProp 𝕄) ⊢ Pipeline.cellsWaits cfgs (dats m σ) () 0 c :=
  Pipeline.cellsWaits_intro cfgs (dats m σ) () 0 c fun w s t => by
    have h0 : lv ((c : Thread nD τ), .dma ((spec0 w).sem s)) () = 0 := by unfold lv; rw [stage_apart w s]
    refine mayWait_of_above c _ _ ?_
    rw [show lv ((c : Thread nD τ), .dma (((cfgs 0).win w).sem s)) () = 0 from h0]
    rcases t with ⟨_ | _, ht⟩
    · exact above_O₀ σ c
    · exact Above.zero 0

theorem share_eq (c : Dev nD) (w : Fin cfg0.W) : (dats m σ 0 c).share w = fullShare := by unfold Dat.share; split <;> rfl

/-! ## The run -/

/-- What a window's array holds in the end. -/
def finalA (c : Dev nD) (w : Fin cfg0.W) : Buf (Elt F) ((cfg0.win w).arr.view.loc (c : Thread nD τ)) := (dats m σ 0 c).arrAt w cfg0.N

def QC : PUnit × MemSt nD τ sig (Elt F) → Prop := fun r =>
  ∀ c : Dev nD, ∀ w : Fin cfg0.W, r.2.mem ((cfg0.win w).arr.view.loc (c : Thread nD τ)) = finalA m σ c w

set_option maxRecDepth 40000 in
/-- Over any float values, from any memory with zero counters in which every device's table is the permutation `σ`: every
    fair execution on the sixteen devices ends, with the arrays as named and every counter at zero. -/
theorem run_main (hσ : TableIs m σ) :
    θ_run defs (onTc (τ := τ) (main (F := F))) (s₀ m ρ) (fun r => QC m σ r ∧ r.2.sem = fun _ => 0) :=
  Pipeline.θ_run_region_owing_glob_pf (fun p => (cfgs p).toPCfg) (fun p => (cfgs p).toPCfg_adm) (dats m σ) () cellOf_inj (0 : Fin 1)
    winFacts0.to₀ ownSemFacts (Pipeline.PreFacts.none _) EP defs₀ 𝒱₀ m ρ main
    (hmain := fun _ => rfl)
    (hbody := body_obligation m σ hσ) (hne := fun w => by fin_cases w <;> exact Nat.succ_pos _) (harr := arr_whole0)
    (hstage := stage_whole0) (hshare := share_eq m σ)
    (hdistinct := winFacts0.arr_inj)
    (O₀ := O₀ σ) (howed₀ := fun _ => rfl) (howedN := fun _ => rfl)
    (L := L) (lv := lv) (hL := L_of_ne) (hwaits := waits m σ)
    (G := given m σ) (G' := dealt m σ) (u₀ := u₀)
    (hu₀ := by
      unfold u₀
      iintro Hu
      ihave H := (ownU_pair _ _) $$ Hu
      icases H with ⟨HP, HX⟩
      imod (fund_cells m σ) $$ HX with HG
      imodintro
      isplitl [HP] <;> iassumption)
    (hglob := glob m σ)
    (hA := fun _ _ => rfl) (hpf := fun _ k => k.elim0)
    (X := start m σ) (Y := fun c => unscopedSems0 c) (Z := fun _ => iprop(emp))
    (hX := start_intro m ρ σ) (hin := phi0_intro m σ) (hout := phi1_exit m σ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The table is as it was. -/
theorem finalA_table (c : Dev nD) : finalA m σ c (0 : Fin 3) = m (win0_0.arr.view.loc (c : Thread nD τ)) :=
  (dats (F := F) m σ 0 c).arrAt_in (0 : Fin 3) rfl _
/-- The input is as it was. -/
theorem finalA_input (c : Dev nD) : finalA m σ c (1 : Fin 3) = m (win0_1.arr.view.loc (c : Thread nD τ)) :=
  (dats (F := F) m σ 0 c).arrAt_in (1 : Fin 3) rfl _

end Cert.Shards

end
-- ==== Proof.Reference.lean ====
/- The reference at the table of a permutation `σ`: the table's sort carries the places along to the inverse of `σ`, and the
   gather reads the slab that the inverse names. -/
module

public import proofs.«01_k».proof.Proof.Gen.ReferenceIdeal.Run

@[expose] public section

noncomputable section

namespace Cert.Slabs

open Cert.ReferenceIdeal Cert.ReferenceIdeal.Gen
open Idealize.ShloMosaic

/-- A number below four as a word. -/
abbrev w4 (i : Fin 4) : BitVec 32 := BitVec.ofNat 32 i.val
/-- The slab number of an index of the whole array. -/
abbrev slabAt (j : S4x2048x1024.Idx) : Fin 4 := ⟨(j 0).val, (j 0).isLt⟩
/-- The same place in another slab. -/
def inSlab (z : Fin 4) (j : S4x2048x1024.Idx) : S4x2048x1024.Idx := fun a => match a with
  | ⟨0, _⟩ => ⟨z.val, z.isLt⟩
  | ⟨1, _⟩ => ⟨(j 1).val, (j 1).isLt⟩
  | ⟨2, _⟩ => ⟨(j 2).val, (j 2).isLt⟩

/-- Four different values below four, put in order by their words, are all the values in order. -/
theorem sorted_values : ∀ f : Fin 4 → Fin 4, (∀ a b, f a = f b → a = b) → ∀ z : Fin 4,
    f (sortedFrom (fun k k' => IntOp.cmpi .slt (w4 (f k)) (w4 (f k')) == 1#1) z) = z := by
  decide +kernel

/-- The places of a permutation's values in their order: the inverse permutation. -/
theorem sortedFrom_perm (σ : Equiv.Perm (Fin 4)) (z : Fin 4) :
    sortedFrom (fun k k' => IntOp.cmpi .slt (w4 (σ k)) (w4 (σ k')) == 1#1) z = σ.symm z :=
  (Equiv.eq_symm_apply σ).mpr (sorted_values σ (fun _ _ h => σ.injective h) z)

/-- The table of a permutation. -/
def tableP (σ : Equiv.Perm (Fin 4)) : IVec S4 32 := fun i => w4 (σ ⟨(i 0).val, (i 0).isLt⟩)

/-- The argsort of a permutation's table is the table of its inverse. -/
theorem argsort_perm (σ : Equiv.Perm (Fin 4)) :
    (Host.sort2 S4 0 comparator_i32_i32_d0 (tableP σ) (iotaInDim S4 32 0)).2 = tableP σ.symm := by
  funext i
  have h := sortedFrom_perm σ ⟨(i 0).val, (i 0).isLt⟩
  show BitVec.ofNat 32 (sortedFrom (fun k k' : Fin 4 => IntOp.cmpi .slt (w4 (σ k)) (w4 (σ k')) == 1#1) ⟨(i 0).val, (i 0).isLt⟩).val = _
  rw [h]; rfl

/-- No entry of a permutation's table is negative: the correction of negative indices leaves the table as it is. -/
theorem wrapped_perm (σ : Equiv.Perm (Fin 4)) :
    select (cmpi .slt (tableP σ) (broadcastInDim S4 ![] bcast_S_S4 (constantI S_ 32 0#32)))
      (addi (tableP σ) (broadcastInDim S4 ![] bcast_S_S4 (constantI S_ 32 4#32))) (tableP σ) = tableP σ := by
  funext i
  have h : ∀ z : Fin 4, IntOp.cmpi .slt (w4 z) 0#32 = 0#1 := by decide
  show (if IntOp.cmpi .slt (tableP σ i) 0#32 = 1#1 then _ else tableP σ i) = _
  unfold tableP
  rw [h]; rfl

theorem toNat_w4 : ∀ z : Fin 4, min (w4 z).toInt.toNat 3 = z.val := by decide

/-- The gather through a permutation's table reads slab `σ z` at slab `z`. -/
theorem gather_perm {α : Type} (σ : Equiv.Perm (Fin 4)) (X : S4x2048x1024.Idx → α) (j : S4x2048x1024.Idx) :
    Host.gather gather_S4x2048x1024_S4x1_S4x2048x1024_12_0_n_n_0_1_120481024 X
        (broadcastInDim S4x1 ![0] bcast_S4_S4x1_0 (tableP σ)) j = X (inSlab (σ (slabAt j)) j) := by
  unfold Host.gather
  refine congrArg X (funext fun a => Fin.ext ?_)
  match a with
  | ⟨0, _⟩ => exact toNat_w4 (σ (slabAt j))
  | ⟨1, _⟩ => exact Nat.zero_add _
  | ⟨2, _⟩ => exact Nat.zero_add _

/-- The reference's result at the table of `σ`: at slab `z` the slab of the input that `σ` sends to `z`. -/
theorem result_perm {α : Type} (σ : Equiv.Perm (Fin 4)) (X : S4x2048x1024.Idx → α) (T : IVec S4 32) (hT : T = tableP σ) :
    Host.gather gather_S4x2048x1024_S4x1_S4x2048x1024_12_0_n_n_0_1_120481024 X
      (broadcastInDim S4x1 ![0] bcast_S4_S4x1_0
        (select (cmpi .slt ((Host.sort2 S4 0 comparator_i32_i32_d0 T (iotaInDim S4 32 0)).2) (broadcastInDim S4 ![] bcast_S_S4 (constantI S_ 32 0#32)))
          (addi ((Host.sort2 S4 0 comparator_i32_i32_d0 T (iotaInDim S4 32 0)).2) (broadcastInDim S4 ![] bcast_S_S4 (constantI S_ 32 4#32)))
          ((Host.sort2 S4 0 comparator_i32_i32_d0 T (iotaInDim S4 32 0)).2)))
      = fun j => X (inSlab (σ.symm (slabAt j)) j) := by
  subst hT
  rw [argsort_perm, wrapped_perm]
  exact funext (gather_perm σ.symm X)

end Cert.Slabs

end
-- ==== Proof.Value.lean ====
/- What the kernel's run leaves, against the whole arrays: each device's result is its block of the whole input with the slabs
   moved, and a table's words read as the permutation that moves them. -/
module

public import proofs.«01_k».proof.Proof.Launch
public import proofs.«01_k».proof.Proof.Reference
public import Idealize.ShloMosaic.Lib.Pipeline.ValueKit.Geometry

@[expose] public section

noncomputable section

namespace Cert.Shards

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (σ : Equiv.Perm (Fin 4))

/-- The staged slab is the device's input. -/
theorem slabOf_apply (c : Dev nD) (i : S1x2048x1024.Idx) :
    slabOf m c i = (m ((c : Thread nD τ).loc main_arg0) : S1x2048x1024.Idx → Elt F .f32) i := by
  show (m ((c : Thread nD τ).loc main_arg0) : S1x2048x1024.Idx → Elt F .f32) _ = _
  refine congrArg _ (funext fun a => Fin.ext ?_)
  exact Pipeline.Window.rect_emb_val_of_index_zero win0_1 (0 : Fin 1) a (by revert a; decide) i

/-- The result array ends as the slab that was gathered. -/
theorem finalA_result (c : Dev nD) : finalA m σ c (2 : Fin 3) = gathered m σ c :=
  (dats (F := F) m σ 0 c).arrAt_eq_of_after_last 2 t0_0 (by decide +kernel) _ fun j => rfl

/-- A device's block of an array cut into slabs, read at an index. -/
abbrev blk {α : Type} (c : Dev nD) (X : Cert.ReferenceIdeal.S4x2048x1024.Idx → α) : S1x2048x1024.Idx → α :=
  Layout.blockN ⟨3, ![1, 2048, 1024]⟩ ⟨3, ![4, 2048, 1024]⟩ (Layout.meshBlock [2, 2, 4] ![[2], [], []] c) X

/-- Each device's block of the array with its slabs moved by `σ` is the block of the device whose slab comes here, whichever
    quarter that device is of. -/
theorem blk_moved {α : Type} (X : Cert.ReferenceIdeal.S4x2048x1024.Idx → α) (c : Dev nD) (k : Fin 4) (i : S1x2048x1024.Idx) :
    blk (devAt k (σ.symm (slab c))) X i = blk c (fun j => X (Cert.Slabs.inSlab (σ.symm (Cert.Slabs.slabAt j)) j)) i := by
  have hi : (i 0).val = 0 := by have : (i 0).val < 1 := (i 0).isLt; omega
  have hl : ∀ d : Dev nD, Layout.meshLin [2, 2, 4] d.val [2] = (slab d).val := by decide
  show X _ = X _
  refine congrArg X (funext fun a => Fin.ext ?_)
  match a with
  | ⟨0, _⟩ =>
    show Layout.meshLin [2, 2, 4] (devAt k (σ.symm (slab c))).val [2] * 1 + (i 0).val
      = (σ.symm ⟨Layout.meshLin [2, 2, 4] c.val [2] * 1 + (i 0).val, _⟩).val
    have e : (⟨Layout.meshLin [2, 2, 4] c.val [2] * 1 + (i 0).val, by rw [hl, hi]; have := (slab c).isLt; omega⟩ : Fin 4) = slab c :=
      Fin.ext (by show _ * 1 + (i 0).val = _; rw [hl, hi]; omega)
    rw [e, hl, slab_devAt, hi]; omega
  | ⟨1, _⟩ => rfl
  | ⟨2, _⟩ => rfl

/-- If the devices' inputs are the blocks of `X`, what a device gathers is its block of `X` with the slabs moved. -/
theorem gathered_blk (X : Cert.ReferenceIdeal.S4x2048x1024.Idx → Elt F .f32)
    (hX : ∀ c : Dev nD, (m ((c : Thread nD τ).loc main_arg0) : S1x2048x1024.Idx → Elt F .f32) = blk c X) (c : Dev nD) :
    (gathered m σ c : S1x2048x1024.Idx → Elt F .f32) = blk c (fun j => X (Cert.Slabs.inSlab (σ.symm (Cert.Slabs.slabAt j)) j)) := by
  funext i
  show slabOf m (devAt (rowQuarter i) (σ.symm (slab c))) i = _
  rw [slabOf_apply, hX, blk_moved]

/-! ## The preconditions -/

/-- The permutation that moves each slab `k` places on. -/
def roll (k : Fin 4) : Equiv.Perm (Fin 4) where
  toFun z := z + k
  invFun z := z - k
  left_inv := by revert k; decide
  right_inv := by revert k; decide

/-- A table that equals four given words, the values of a permutation, is the permutation's table. -/
theorem table_of_eq (w : Fin 4 → BitVec 32) (hw : ∀ i : S4.Idx, w (S4.rowMajor i) = Cert.Slabs.tableP σ i) (t : IVec S4 32)
    (h : cmpi .eq t (fun i => w (S4.rowMajor i)) = fun _ => 1#1) : t = Cert.Slabs.tableP σ := by
  funext i
  have e : IntOp.cmpi .eq (t i) (w (S4.rowMajor i)) = 1#1 := congrFun h i
  rw [← hw i]
  have hb : ∀ b : Bool, BitVec.ofBool b = 1#1 → b = true := by decide
  exact eq_of_beq (hb _ e)

/-- Every device's table, as an array, is the permutation's. -/
def TablesAre : Prop := ∀ c : Dev nD, (m (c.tc.loc main_arg1) : IVec S4 32) = Cert.Slabs.tableP σ

/-- So is each of its words. -/
theorem TablesAre.words (h : TablesAre m σ) : TableIs m σ := fun c z => congrFun (h c) (place4 z)

end Cert.Shards

end
-- ==== Proof.lean ====
/- The proof of the certificate's claim (proofs.«01_k».proof.Defs): sixteen devices that move the slabs of an array by a
   permutation held in a table end with what the reference, an index by the table's argsort on one device, ends with.

   The run of the kernel is Proof/Launch.lean's, for every permutation and over any float values. This module reads it
   beside the reference's run, again for every permutation, and then at the tables that the preconditions name. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_pi_is_3012_Kernel
public import proofs.«01_k».proof.Proof.Gen.Pre_pi_is_2301_Kernel
public import proofs.«01_k».proof.Proof.Gen.Pre_pi_is_1230_Kernel
public import proofs.«01_k».proof.Proof.Gen.Pre_pi_is_3012_ReferenceIdeal
public import proofs.«01_k».proof.Proof.Gen.Pre_pi_is_2301_ReferenceIdeal
public import proofs.«01_k».proof.Proof.Gen.Pre_pi_is_1230_ReferenceIdeal
public import proofs.«01_k».proof.Proof.Value

@[expose] public section

noncomputable section

namespace Cert.Proof

open Idealize.ShloMosaic Idealize.SL.Sem

/-- Over any float values and for any permutation, the kernel ends with its arguments as they were and every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) (σ : Equiv.Perm (Fin 4)) (hσ : Cert.Shards.TableIs m σ) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ r => ⟨fun c => ⟨(r.1 c (1 : Fin 3)).trans (Cert.Shards.finalA_input _ _ c), (r.1 c (0 : Fin 3)).trans (Cert.Shards.finalA_table _ _ c)⟩, r.2⟩)
    (Cert.Shards.run_main m ρ σ hσ)

set_option maxRecDepth 20000 in
/-- The bodies that the program as compiled runs are the ideal kernel's, -/
theorem bodies_eq : Cert.Kernel.defs₀ (F := Bits) = Cert.KernelIdeal.defs₀ (F := Bits) := by
  unfold Cert.Kernel.defs₀ Cert.KernelIdeal.defs₀
  congr 1
  funext l x
  match l, x with
  | ⟨0, _⟩, (t, s) => rfl
/-- and so is its table of bodies. -/
theorem defs_eq : Cert.Kernel.defs (F := Bits) = Cert.KernelIdeal.defs (F := Bits) :=
  congrArg (Pipeline.defs (Cert.KernelIdeal.pcfgs (F := Bits))) bodies_eq

/-- So does the program as compiled, over the machine's floats. -/
theorem frame_bits (m : (ℓ : Loc Cert.Kernel.nD Cert.Kernel.τ Cert.Kernel.sig) → Buf (Elt Bits) ℓ) (ρ : Dev Cert.Kernel.nD → PrngReg)
    (σ : Equiv.Perm (Fin 4)) (hσ : Cert.Shards.TableIs m σ) :
    θ_run (Cert.Kernel.defs (F := Bits)) (onTc (τ := Cert.Kernel.τ) (Cert.Kernel.main (F := Bits))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  have r := frame_any (F := Bits) m ρ σ hσ
  exact Eq.mpr (congrArg (fun D => θ_run D (onTc (τ := Cert.Kernel.τ) (Cert.Kernel.main (F := Bits))) _ _) defs_eq) r

/-- The reference ends with its arguments as they were; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From inputs that are the blocks of the reference's input and tables that are the reference's table, a permutation's, every
    device ends with its block of the reference's result. -/
theorem equal_any (σ : Equiv.Perm (Fin 4))
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg)
    (h : Cert.Shards.TablesAre m σ)
    (hm : ∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ v : Buf (Elt Ideal) (((0 : Dev Cert.ReferenceIdeal.nD).tc : Thread Cert.ReferenceIdeal.nD Cert.ReferenceIdeal.τ).loc Cert.ReferenceIdeal.main_v7),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 2, 4] ![[2], [], []] c) v
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, ρ'⟩ (fun r =>
          r.2.mem (((0 : Dev Cert.ReferenceIdeal.nD).tc : Thread Cert.ReferenceIdeal.nD Cert.ReferenceIdeal.τ).loc Cert.ReferenceIdeal.main_v7) = v
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have hT : (m' (((0 : Dev Cert.ReferenceIdeal.nD).tc : Thread Cert.ReferenceIdeal.nD Cert.ReferenceIdeal.τ).loc Cert.ReferenceIdeal.main_arg1) : IVec Cert.ReferenceIdeal.S4 32) = Cert.Slabs.tableP σ := (hm 0).2.symm.trans (h 0)
  refine ⟨fun j => m' (((0 : Dev Cert.ReferenceIdeal.nD).tc : Thread Cert.ReferenceIdeal.nD Cert.ReferenceIdeal.τ).loc Cert.ReferenceIdeal.main_arg0)
      (Cert.Slabs.inSlab (σ.symm (Cert.Slabs.slabAt j)) j), ?_, ?_⟩
  · exact (θ_run Cert.KernelIdeal.defs _ _).mono
      (fun _ r c => ⟨((r.1 c (2 : Fin 3)).trans (Cert.Shards.finalA_result _ _ c)).trans
          (Cert.Shards.gathered_blk m σ _ (fun c => (hm c).1) c),
        (r.1 c (1 : Fin 3)).trans (Cert.Shards.finalA_input _ _ c), (r.1 c (0 : Fin 3)).trans (Cert.Shards.finalA_table _ _ c)⟩)
      (Cert.Shards.run_main (F := Ideal) m ρ σ h.words)
  · exact (θ_run Cert.ReferenceIdeal.defs _ _).mono
      (fun _ r => ⟨(r 0).1.trans (Cert.Slabs.result_perm σ _ _ hT), (r 0).2⟩)
      (Cert.ReferenceIdeal.Value.run (F := Ideal) m' ρ')

/-! ## The tables that the preconditions name -/

/-- Tables of 3, 0, 1, 2 move each slab three places on. -/
theorem tables_3012 {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_pi_is_3012_Kernel.fn (F := F) (m (c.tc.loc Cert.KernelIdeal.main_arg0)) (m (c.tc.loc Cert.KernelIdeal.main_arg1)) = fun _ => 1#1) :
    Cert.Shards.TablesAre m (Cert.Shards.roll 3) :=
  fun c => Cert.Shards.table_of_eq _ Cert.Pre_pi_is_3012_Kernel.lit0 (by decide +kernel) _ (h c)

/-- Tables of 2, 3, 0, 1 move each slab two places on. -/
theorem tables_2301 {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_pi_is_2301_Kernel.fn (F := F) (m (c.tc.loc Cert.KernelIdeal.main_arg0)) (m (c.tc.loc Cert.KernelIdeal.main_arg1)) = fun _ => 1#1) :
    Cert.Shards.TablesAre m (Cert.Shards.roll 2) :=
  fun c => Cert.Shards.table_of_eq _ Cert.Pre_pi_is_2301_Kernel.lit0 (by decide +kernel) _ (h c)

/-- Tables of 1, 2, 3, 0 move each slab one place on. -/
theorem tables_1230 {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_pi_is_1230_Kernel.fn (F := F) (m (c.tc.loc Cert.KernelIdeal.main_arg0)) (m (c.tc.loc Cert.KernelIdeal.main_arg1)) = fun _ => 1#1) :
    Cert.Shards.TablesAre m (Cert.Shards.roll 1) :=
  fun c => Cert.Shards.table_of_eq _ Cert.Pre_pi_is_1230_Kernel.lit0 (by decide +kernel) _ (h c)

theorem claim : Cert.Claim := ⟨Cert.Kernel.Gen.facts, Cert.KernelIdeal.Gen.facts, Cert.ReferenceIdeal.Gen.facts,
  Cert.Pre_pi_is_3012_Kernel.Gen.facts, Cert.Pre_pi_is_2301_Kernel.Gen.facts, Cert.Pre_pi_is_1230_Kernel.Gen.facts,
  Cert.Pre_pi_is_3012_ReferenceIdeal.Gen.facts, Cert.Pre_pi_is_2301_ReferenceIdeal.Gen.facts, Cert.Pre_pi_is_1230_ReferenceIdeal.Gen.facts,
  fun m ρ h => frame_bits m ρ _ (tables_3012 m h).words,
  fun m ρ h => frame_bits m ρ _ (tables_2301 m h).words,
  fun m ρ h => frame_bits m ρ _ (tables_1230 m h).words,
  fun m ρ h => frame_any m ρ _ (tables_3012 m h).words,
  fun m ρ h => frame_any m ρ _ (tables_2301 m h).words,
  fun m ρ h => frame_any m ρ _ (tables_1230 m h).words,
  frame_reference, fun m ρ _ => frame_reference m ρ trivial, fun m ρ _ => frame_reference m ρ trivial, fun m ρ _ => frame_reference m ρ trivial, trivial,
  fun m ρ m' ρ' h => equal_any _ m ρ m' ρ' (tables_3012 m h),
  fun m ρ m' ρ' h => equal_any _ m ρ m' ρ' (tables_2301 m h),
  fun m ρ m' ρ' h => equal_any _ m ρ m' ρ' (tables_1230 m h)⟩

end Cert.Proof

end
